-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def preserves_Kernel_KernelIdeal : Prop :=
  IdealRules.named_const.Statement Cert.KernelIdeal.κ "inv_768" .f32 0x3AAAAAAB#32 ((1 / 768 : ℝ) : EReal)

def preserves_Reference_ReferenceIdeal : Prop :=
  IdealRules.named_const.Statement Cert.ReferenceIdeal.κ "ln2" .f32 0x3F317218#32 ((Real.log 2 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference)
    ∧ preserves_Kernel_KernelIdeal
    ∧ preserves_Reference_ReferenceIdeal
    ∧ algebraic_KernelIdeal_ReferenceIdeal_pre_in_range (hKernelIdeal := hKernelIdeal) (hReferenceIdeal := hReferenceIdeal) (hPre_in_range := hPre_in_range)
-- ==== Pre_in_range.lean ====
abbrev S1x256x16384 : Shape := ⟨3, ![1, 256, 16384]⟩
abbrev S2880x16384 : Shape := ⟨2, ![2880, 16384]⟩
abbrev S23x128 : Shape := ⟨2, ![23, 128]⟩
abbrev S2048 : Shape := ⟨1, ![2048]⟩
abbrev S768 : Shape := ⟨1, ![768]⟩
abbrev S256x128x128 : Shape := ⟨3, ![256, 128, 128]⟩
abbrev S_ : Shape := ⟨0, ![]⟩
abbrev S256x128 : Shape := ⟨2, ![256, 128]⟩

class Facts : Prop where
  bitsLt_bf16_f32 : FTy.bits .bf16 < FTy.bits .f32
  shapeCasts_S1x256x16384_S256x128x128 : S1x256x16384.ShapeCasts S256x128x128
  reducesTo_S256x128x128_S256x128_d2 : S256x128x128.ReducesTo [2] S256x128
  h_S_ : 0 < S_.numel
  bcast_S_S256x128 : S_.BroadcastsInDim S256x128 (![] : Fin 0 → Fin S256x128.rank)

variable [Facts]

def fn {F : FTy → Type} [FloatOps F] (main_arg0 : FVec F S1x256x16384 .bf16) (main_arg1 : FVec F S2880x16384 .fp8e4m3) (main_arg2 : FVec F S23x128 .f32) (main_arg3 : FVec F S2048 .f32) (main_arg4 : FVec F S768 .f32) : IVec S256x128 1 :=
  let main_v0 : FVec F S1x256x16384 .f32 := (extf .f32 · bitsLt_bf16_f32) main_arg0
  let main_v1 : FVec F S256x128x128 .f32 := shapeCast S256x128x128 main_v0 shapeCasts_S1x256x16384_S256x128x128
  let main_v2 : FVec F S256x128x128 .f32 := Host.absf main_v1
  let main_cst : FVec F S_ .f32 := constant S_ .f32 0xFF800000#32
  let main_v3 : FVec F S256x128 .f32 := (fun x v => Host.reduce FloatOps.maximumf x v reducesTo_S256x128x128_S256x128_d2 h_S_) main_v2 main_cst
  let main_cst_0 : FVec F S_ .f32 := constant S_ .f32 0x00000000#32
  let main_v4 : FVec F S256x128 .f32 := broadcastInDim S256x128 ![] bcast_S_S256x128 main_cst_0
  let main_v5 : IVec S256x128 1 := cmpf .oeq main_v3 main_v4
  let main_cst_1 : FVec F S_ .f32 := constant S_ .f32 0x04800000#32
  let main_v6 : FVec F S256x128 .f32 := broadcastInDim S256x128 ![] bcast_S_S256x128 main_cst_1
  let main_v7 : IVec S256x128 1 := cmpf .oge main_v3 main_v6
  let main_cst_2 : FVec F S_ .f32 := constant S_ .f32 0x7F7F0000#32
  let main_v8 : FVec F S256x128 .f32 := broadcastInDim S256x128 ![] bcast_S_S256x128 main_cst_2
  let main_v9 : IVec S256x128 1 := cmpf .ole main_v3 main_v8
  let main_v10 : IVec S256x128 1 := andi main_v7 main_v9
  let main_v11 : IVec S256x128 1 := ori main_v5 main_v10
  main_v11
-- ==== Kernel.lean ====
abbrev S1x256x16384 : Shape := ⟨3, ![1, 256, 16384]⟩
abbrev S2880x16384 : Shape := ⟨2, ![2880, 16384]⟩
abbrev S23x128 : Shape := ⟨2, ![23, 128]⟩
abbrev S2048 : Shape := ⟨1, ![2048]⟩
abbrev S768 : Shape := ⟨1, ![768]⟩
abbrev S256x16384 : Shape := ⟨2, ![256, 16384]⟩
abbrev S1x2048 : Shape := ⟨2, ![1, 2048]⟩
abbrev S1x768 : Shape := ⟨2, ![1, 768]⟩
abbrev S256x2048 : Shape := ⟨2, ![256, 2048]⟩
abbrev S256x768 : Shape := ⟨2, ![256, 768]⟩
abbrev S256x64 : Shape := ⟨2, ![256, 64]⟩
abbrev S256x128 : Shape := ⟨2, ![256, 128]⟩
abbrev S256x1024 : Shape := ⟨2, ![256, 1024]⟩
abbrev S2880x1024 : Shape := ⟨2, ![2880, 1024]⟩
abbrev S2880x256 : Shape := ⟨2, ![2880, 256]⟩
abbrev S256 : Shape := ⟨1, ![256]⟩
abbrev S256x1 : Shape := ⟨2, ![256, 1]⟩
abbrev S256x256 : Shape := ⟨2, ![256, 256]⟩
abbrev S128x128 : Shape := ⟨2, ![128, 128]⟩
abbrev S1x1 : Shape := ⟨2, ![1, 1]⟩
abbrev S128x1024 : Shape := ⟨2, ![128, 1024]⟩
abbrev S128x256 : Shape := ⟨2, ![128, 256]⟩
abbrev S64x128 : Shape := ⟨2, ![64, 128]⟩
abbrev S64x1024 : Shape := ⟨2, ![64, 1024]⟩
abbrev S64x256 : Shape := ⟨2, ![64, 256]⟩
abbrev S2048x256 : Shape := ⟨2, ![2048, 256]⟩
abbrev S1x256 : Shape := ⟨2, ![1, 256]⟩
abbrev S1x128 : Shape := ⟨2, ![1, 128]⟩
abbrev S768x256 : Shape := ⟨2, ![768, 256]⟩

abbrev nBuf : Space → Nat
  | .hbm => 13
  | .vmem => 13
  | .smem => 1
  | _ => 0

abbrev bufTy : (tb : Table) → Fin (tcTables nBuf tb) → BufTy
  | .hbm, ⟨0, _⟩ => ⟨S1x256x16384, .bf16⟩
  | .hbm, ⟨1, _⟩ => ⟨S2880x16384, .fp8e4m3⟩
  | .hbm, ⟨2, _⟩ => ⟨S23x128, .f32⟩
  | .hbm, ⟨3, _⟩ => ⟨S2048, .f32⟩
  | .hbm, ⟨4, _⟩ => ⟨S768, .f32⟩
  | .hbm, ⟨5, _⟩ => ⟨S256x16384, .bf16⟩
  | .hbm, ⟨6, _⟩ => ⟨S1x2048, .f32⟩
  | .hbm, ⟨7, _⟩ => ⟨S1x768, .f32⟩
  | .hbm, ⟨8, _⟩ => ⟨S256x2048, .bf16⟩
  | .hbm, ⟨9, _⟩ => ⟨S256x768, .bf16⟩
  | .hbm, ⟨10, _⟩ => ⟨S256x64, .bf16⟩
  | .hbm, ⟨11, _⟩ => ⟨S256x16384, .fp8e4m3⟩
  | .hbm, ⟨12, _⟩ => ⟨S256x128, .f32⟩
  | .local _ .vmem, ⟨0, _⟩ => ⟨S256x1024, .bf16⟩
  | .local _ .vmem, ⟨1, _⟩ => ⟨S256x1024, .bf16⟩
  | .local _ .vmem, ⟨2, _⟩ => ⟨S2880x1024, .fp8e4m3⟩
  | .local _ .vmem, ⟨3, _⟩ => ⟨S2880x1024, .fp8e4m3⟩
  | .local _ .vmem, ⟨4, _⟩ => ⟨S1x2048, .f32⟩
  | .local _ .vmem, ⟨5, _⟩ => ⟨S1x768, .f32⟩
  | .local _ .vmem, ⟨6, _⟩ => ⟨S256x2048, .bf16⟩
  | .local _ .vmem, ⟨7, _⟩ => ⟨S256x768, .bf16⟩
  | .local _ .vmem, ⟨8, _⟩ => ⟨S256x64, .bf16⟩
  | .local _ .vmem, ⟨9, _⟩ => ⟨S256x1024, .fp8e4m3⟩
  | .local _ .vmem, ⟨10, _⟩ => ⟨S256x1024, .fp8e4m3⟩
  | .local _ .vmem, ⟨11, _⟩ => ⟨S256x128, .f32⟩
  | .local _ .vmem, ⟨12, _⟩ => ⟨S2880x256, .f32⟩
  | .local _ .smem, ⟨0, _⟩ => ⟨S23x128, .f32⟩
  | _, _ => ⟨S1x256x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_scratch0 : Ref sig .tc := ⟨.vmem, 12, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12

abbrev nD : Nat := 1
abbrev τ : Topo := Topo.v7x

variable {F : FTy → Type} [FloatOps F]

abbrev grid0 : Pipeline.Grid := ⟨1, ![16], ![false]⟩

def k0_off1 (i : grid0.Coords) (c0_i32_140 : BitVec 32) : Fin 2 → Nat :=
  let c0_141 : Index := 0#32
  let arg0 : BitVec 32 := BitVec.ofNat 32 (i 0).val
  let c8_i32_139 : BitVec 32 := 8#32
  let v418 : BitVec 32 := Scalar.muli arg0 c8_i32_139
  let v419 : BitVec 32 := Scalar.addi v418 c0_i32_140
  let v420 : Index := Scalar.indexCast v419
  ![0, v420.toNat]
def k0_off2 (i : grid0.Coords) (c0_i32_185 : BitVec 32) : Fin 2 → Nat :=
  let c1 : Index := 1#32
  let arg0 : BitVec 32 := BitVec.ofNat 32 (i 0).val
  let c8_i32_184 : BitVec 32 := 8#32
  let v497 : BitVec 32 := Scalar.muli arg0 c8_i32_184
  let v498 : BitVec 32 := Scalar.addi v497 c0_i32_185
  let v499 : Index := Scalar.indexCast v498
  ![1, v499.toNat]
def k0_off3 (i : grid0.Coords) (c0_i32_229 : BitVec 32) : Fin 2 → Nat :=
  let c2 : Index := 2#32
  let arg0 : BitVec 32 := BitVec.ofNat 32 (i 0).val
  let c8_i32_228 : BitVec 32 := 8#32
  let v576 : BitVec 32 := Scalar.muli arg0 c8_i32_228
  let v577 : BitVec 32 := Scalar.addi v576 c0_i32_229
  let v578 : Index := Scalar.indexCast v577
  ![2, v578.toNat]
def k0_off4 (i : grid0.Coords) (c0_i32_273 : BitVec 32) : Fin 2 → Nat :=
  let c3 : Index := 3#32
  let arg0 : BitVec 32 := BitVec.ofNat 32 (i 0).val
  let c8_i32_272 : BitVec 32 := 8#32
  let v655 : BitVec 32 := Scalar.muli arg0 c8_i32_272
  let v656 : BitVec 32 := Scalar.addi v655 c0_i32_273
  let v657 : Index := Scalar.indexCast v656
  ![3, v657.toNat]
def k0_off5 (i : grid0.Coords) (c0_i32_317 : BitVec 32) : Fin 2 → Nat :=
  let c4 : Index := 4#32
  let arg0 : BitVec 32 := BitVec.ofNat 32 (i 0).val
  let c8_i32_316 : BitVec 32 := 8#32
  let v734 : BitVec 32 := Scalar.muli arg0 c8_i32_316
  let v735 : BitVec 32 := Scalar.addi v734 c0_i32_317
  let v736 : Index := Scalar.indexCast v735
  ![4, v736.toNat]
def k0_off6 (i : grid0.Coords) (c0_i32_361 : BitVec 32) : Fin 2 → Nat :=
  let c5 : Index := 5#32
  let arg0 : BitVec 32 := BitVec.ofNat 32 (i 0).val
  let c8_i32_360 : BitVec 32 := 8#32
  let v813 : BitVec 32 := Scalar.muli arg0 c8_i32_360
  let v814 : BitVec 32 := Scalar.addi v813 c0_i32_361
  let v815 : Index := Scalar.indexCast v814
  ![5, v815.toNat]
def k0_off7 (i : grid0.Coords) (c0_i32_405 : BitVec 32) : Fin 2 → Nat :=
  let c6 : Index := 6#32
  let arg0 : BitVec 32 := BitVec.ofNat 32 (i 0).val
  let c8_i32_404 : BitVec 32 := 8#32
  let v892 : BitVec 32 := Scalar.muli arg0 c8_i32_404
  let v893 : BitVec 32 := Scalar.addi v892 c0_i32_405
  let v894 : Index := Scalar.indexCast v893
  ![6, v894.toNat]
def k0_off8 (i : grid0.Coords) (c0_i32_449 : BitVec 32) : Fin 2 → Nat :=
  let c7 : Index := 7#32
  let arg0 : BitVec 32 := BitVec.ofNat 32 (i 0).val
  let c8_i32_448 : BitVec 32 := 8#32
  let v971 : BitVec 32 := Scalar.muli arg0 c8_i32_448
  let v972 : BitVec 32 := Scalar.addi v971 c0_i32_449
  let v973 : Index := Scalar.indexCast v972
  ![7, v973.toNat]
def k0_off9 (i : grid0.Coords) (c0_i32_492 : BitVec 32) : Fin 2 → Nat :=
  let c8 : Index := 8#32
  let arg0 : BitVec 32 := BitVec.ofNat 32 (i 0).val
  let c8_i32_491 : BitVec 32 := 8#32
  let v1050 : BitVec 32 := Scalar.muli arg0 c8_i32_491
  let v1051 : BitVec 32 := Scalar.addi v1050 c0_i32_492
  let v1052 : Index := Scalar.indexCast v1051
  ![8, v1052.toNat]
def k0_off10 (i : grid0.Coords) (c0_i32_535 : BitVec 32) : Fin 2 → Nat :=
  let c9 : Index := 9#32
  let arg0 : BitVec 32 := BitVec.ofNat 32 (i 0).val
  let c8_i32_534 : BitVec 32 := 8#32
  let v1129 : BitVec 32 := Scalar.muli arg0 c8_i32_534
  let v1130 : BitVec 32 := Scalar.addi v1129 c0_i32_535
  let v1131 : Index := Scalar.indexCast v1130
  ![9, v1131.toNat]
def k0_off11 (i : grid0.Coords) (c0_i32_578 : BitVec 32) : Fin 2 → Nat :=
  let c10 : Index := 10#32
  let arg0 : BitVec 32 := BitVec.ofNat 32 (i 0).val
  let c8_i32_577 : BitVec 32 := 8#32
  let v1208 : BitVec 32 := Scalar.muli arg0 c8_i32_577
  let v1209 : BitVec 32 := Scalar.addi v1208 c0_i32_578
  let v1210 : Index := Scalar.indexCast v1209
  ![10, v1210.toNat]
def k0_off12 (i : grid0.Coords) (c0_i32_621 : BitVec 32) : Fin 2 → Nat :=
  let c11 : Index := 11#32
  let arg0 : BitVec 32 := BitVec.ofNat 32 (i 0).val
  let c8_i32_620 : BitVec 32 := 8#32
  let v1287 : BitVec 32 := Scalar.muli arg0 c8_i32_620
  let v1288 : BitVec 32 := Scalar.addi v1287 c0_i32_621
  let v1289 : Index := Scalar.indexCast v1288
  ![11, v1289.toNat]
def k0_off13 (i : grid0.Coords) (c0_i32_664 : BitVec 32) : Fin 2 → Nat :=
  let c12 : Index := 12#32
  let arg0 : BitVec 32 := BitVec.ofNat 32 (i 0).val
  let c8_i32_663 : BitVec 32 := 8#32
  let v1366 : BitVec 32 := Scalar.muli arg0 c8_i32_663
  let v1367 : BitVec 32 := Scalar.addi v1366 c0_i32_664
  let v1368 : Index := Scalar.indexCast v1367
  ![12, v1368.toNat]
def k0_off14 (i : grid0.Coords) (c0_i32_707 : BitVec 32) : Fin 2 → Nat :=
  let c13 : Index := 13#32
  let arg0 : BitVec 32 := BitVec.ofNat 32 (i 0).val
  let c8_i32_706 : BitVec 32 := 8#32
  let v1445 : BitVec 32 := Scalar.muli arg0 c8_i32_706
  let v1446 : BitVec 32 := Scalar.addi v1445 c0_i32_707
  let v1447 : Index := Scalar.indexCast v1446
  ![13, v1447.toNat]
def k0_off15 (i : grid0.Coords) (c0_i32_750 : BitVec 32) : Fin 2 → Nat :=
  let c14 : Index := 14#32
  let arg0 : BitVec 32 := BitVec.ofNat 32 (i 0).val
  let c8_i32_749 : BitVec 32 := 8#32
  let v1524 : BitVec 32 := Scalar.muli arg0 c8_i32_749
  let v1525 : BitVec 32 := Scalar.addi v1524 c0_i32_750
  let v1526 : Index := Scalar.indexCast v1525
  ![14, v1526.toNat]
def k0_off16 (i : grid0.Coords) (c0_i32_793 : BitVec 32) : Fin 2 → Nat :=
  let c15 : Index := 15#32
  let arg0 : BitVec 32 := BitVec.ofNat 32 (i 0).val
  let c8_i32_792 : BitVec 32 := 8#32
  let v1603 : BitVec 32 := Scalar.muli arg0 c8_i32_792
  let v1604 : BitVec 32 := Scalar.addi v1603 c0_i32_793
  let v1605 : Index := Scalar.indexCast v1604
  ![15, v1605.toNat]
def k0_off17 (i : grid0.Coords) (c0_i32_836 : BitVec 32) : Fin 2 → Nat :=
  let c16 : Index := 16#32
  let arg0 : BitVec 32 := BitVec.ofNat 32 (i 0).val
  let c8_i32_835 : BitVec 32 := 8#32
  let v1682 : BitVec 32 := Scalar.muli arg0 c8_i32_835
  let v1683 : BitVec 32 := Scalar.addi v1682 c0_i32_836
  let v1684 : Index := Scalar.indexCast v1683
  ![16, v1684.toNat]
def k0_off18 (i : grid0.Coords) (c0_i32_879 : BitVec 32) : Fin 2 → Nat :=
  let c17 : Index := 17#32
  let arg0 : BitVec 32 := BitVec.ofNat 32 (i 0).val
  let c8_i32_878 : BitVec 32 := 8#32
  let v1761 : BitVec 32 := Scalar.muli arg0 c8_i32_878
  let v1762 : BitVec 32 := Scalar.addi v1761 c0_i32_879
  let v1763 : Index := Scalar.indexCast v1762
  ![17, v1763.toNat]
def k0_off19 (i : grid0.Coords) (c0_i32_922 : BitVec 32) : Fin 2 → Nat :=
  let c18 : Index := 18#32
  let arg0 : BitVec 32 := BitVec.ofNat 32 (i 0).val
  let c8_i32_921 : BitVec 32 := 8#32
  let v1840 : BitVec 32 := Scalar.muli arg0 c8_i32_921
  let v1841 : BitVec 32 := Scalar.addi v1840 c0_i32_922
  let v1842 : Index := Scalar.indexCast v1841
  ![18, v1842.toNat]
def k0_off20 (i : grid0.Coords) (c0_i32_965 : BitVec 32) : Fin 2 → Nat :=
  let c19 : Index := 19#32
  let arg0 : BitVec 32 := BitVec.ofNat 32 (i 0).val
  let c8_i32_964 : BitVec 32 := 8#32
  let v1919 : BitVec 32 := Scalar.muli arg0 c8_i32_964
  let v1920 : BitVec 32 := Scalar.addi v1919 c0_i32_965
  let v1921 : Index := Scalar.indexCast v1920
  ![19, v1921.toNat]
def k0_off21 (i : grid0.Coords) (c0_i32_1008 : BitVec 32) : Fin 2 → Nat :=
  let c20 : Index := 20#32
  let arg0 : BitVec 32 := BitVec.ofNat 32 (i 0).val
  let c8_i32_1007 : BitVec 32 := 8#32
  let v1998 : BitVec 32 := Scalar.muli arg0 c8_i32_1007
  let v1999 : BitVec 32 := Scalar.addi v1998 c0_i32_1008
  let v2000 : Index := Scalar.indexCast v1999
  ![20, v2000.toNat]
def k0_off22 (i : grid0.Coords) (c0_i32_1051 : BitVec 32) : Fin 2 → Nat :=
  let c21 : Index := 21#32
  let arg0 : BitVec 32 := BitVec.ofNat 32 (i 0).val
  let c8_i32_1050 : BitVec 32 := 8#32
  let v2077 : BitVec 32 := Scalar.muli arg0 c8_i32_1050
  let v2078 : BitVec 32 := Scalar.addi v2077 c0_i32_1051
  let v2079 : Index := Scalar.indexCast v2078
  ![21, v2079.toNat]
def k0_off23 (i : grid0.Coords) (c0_i32_1094 : BitVec 32) : Fin 2 → Nat :=
  let c22 : Index := 22#32
  let arg0 : BitVec 32 := BitVec.ofNat 32 (i 0).val
  let c8_i32_1093 : BitVec 32 := 8#32
  let v2156 : BitVec 32 := Scalar.muli arg0 c8_i32_1093
  let v2157 : BitVec 32 := Scalar.addi v2156 c0_i32_1094
  let v2158 : Index := Scalar.indexCast v2157
  ![22, v2158.toNat]
def k0_cond2 (i : grid0.Coords) : BitVec 1 :=
  let arg0 : BitVec 32 := BitVec.ofNat 32 (i 0).val
  let c15_i32 : BitVec 32 := 15#32
  let v2233 : BitVec 1 := Scalar.cmpi .eq arg0 c15_i32
  let v2234 : BitVec 32 := Scalar.extui v2233
  let c0_i32_1135 : BitVec 32 := 0#32
  let v2235 : BitVec 1 := Scalar.cmpi .ne v2234 c0_i32_1135
  v2235

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2880x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S23x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "inv_768" => some ((1 / 768 : ℝ) : EReal)
  | _ => none
-- ==== ReferenceIdeal.lean ====
variable {F : FTy → Type} [FloatOps F] [Named F]
def κ : String → Option EReal := fun
  | "ln2" => some ((Real.log 2 : ℝ) : EReal)
  | _ => none
-- ==== Reference.lean ====
abbrev S1x256x16384 : Shape := ⟨3, ![1, 256, 16384]⟩
abbrev S2880x16384 : Shape := ⟨2, ![2880, 16384]⟩
abbrev S23x128 : Shape := ⟨2, ![23, 128]⟩
abbrev S2048 : Shape := ⟨1, ![2048]⟩
abbrev S768 : Shape := ⟨1, ![768]⟩
abbrev S256x16384 : Shape := ⟨2, ![256, 16384]⟩
abbrev S1x2048 : Shape := ⟨2, ![1, 2048]⟩
abbrev S1x768 : Shape := ⟨2, ![1, 768]⟩
abbrev S256x2048 : Shape := ⟨2, ![256, 2048]⟩
abbrev S256x768 : Shape := ⟨2, ![256, 768]⟩
abbrev S256x64 : Shape := ⟨2, ![256, 64]⟩
abbrev S256x128 : Shape := ⟨2, ![256, 128]⟩
abbrev S256x128x128 : Shape := ⟨3, ![256, 128, 128]⟩
abbrev S256x128x1 : Shape := ⟨3, ![256, 128, 1]⟩
abbrev S2816x16384 : Shape := ⟨2, ![2816, 16384]⟩
abbrev S22x128x128x128 : Shape := ⟨4, ![22, 128, 128, 128]⟩
abbrev S22x128 : Shape := ⟨2, ![22, 128]⟩
abbrev S22x1x128x1 : Shape := ⟨4, ![22, 1, 128, 1]⟩
abbrev S64x16384 : Shape := ⟨2, ![64, 16384]⟩
abbrev S64x128x128 : Shape := ⟨3, ![64, 128, 128]⟩
abbrev S1x128 : Shape := ⟨2, ![1, 128]⟩
abbrev S128 : Shape := ⟨1, ![128]⟩
abbrev S1x128x1 : Shape := ⟨3, ![1, 128, 1]⟩
abbrev S256x2816 : Shape := ⟨2, ![256, 2816]⟩
abbrev S256x2880 : Shape := ⟨2, ![256, 2880]⟩
abbrev S256 : Shape := ⟨1, ![256]⟩
abbrev S256x1 : Shape := ⟨2, ![256, 1]⟩

abbrev nBuf : Space → Nat
  | .hbm => 13
  | .vmem => 10
  | .smem => 0
  | _ => 0

abbrev bufTy : (tb : Table) → Fin (tcTables nBuf tb) → BufTy
  | .hbm, ⟨0, _⟩ => ⟨S1x256x16384, .bf16⟩
  | .hbm, ⟨1, _⟩ => ⟨S2880x16384, .fp8e4m3⟩
  | .hbm, ⟨2, _⟩ => ⟨S23x128, .f32⟩
  | .hbm, ⟨3, _⟩ => ⟨S2048, .f32⟩
  | .hbm, ⟨4, _⟩ => ⟨S768, .f32⟩
  | .hbm, ⟨5, _⟩ => ⟨S256x16384, .bf16⟩
  | .hbm, ⟨6, _⟩ => ⟨S1x2048, .f32⟩
  | .hbm, ⟨7, _⟩ => ⟨S1x768, .f32⟩
  | .hbm, ⟨8, _⟩ => ⟨S256x2048, .bf16⟩
  | .hbm, ⟨9, _⟩ => ⟨S256x768, .bf16⟩
  | .hbm, ⟨10, _⟩ => ⟨S256x64, .bf16⟩
  | .hbm, ⟨11, _⟩ => ⟨S256x16384, .fp8e4m3⟩
  | .hbm, ⟨12, _⟩ => ⟨S256x128, .f32⟩
  | .local _ .vmem, ⟨0, _⟩ => ⟨S256x16384, .bf16⟩
  | .local _ .vmem, ⟨1, _⟩ => ⟨S2880x16384, .fp8e4m3⟩
  | .local _ .vmem, ⟨2, _⟩ => ⟨S23x128, .f32⟩
  | .local _ .vmem, ⟨3, _⟩ => ⟨S1x2048, .f32⟩
  | .local _ .vmem, ⟨4, _⟩ => ⟨S1x768, .f32⟩
  | .local _ .vmem, ⟨5, _⟩ => ⟨S256x2048, .bf16⟩
  | .local _ .vmem, ⟨6, _⟩ => ⟨S256x768, .bf16⟩
  | .local _ .vmem, ⟨7, _⟩ => ⟨S256x64, .bf16⟩
  | .local _ .vmem, ⟨8, _⟩ => ⟨S256x16384, .fp8e4m3⟩
  | .local _ .vmem, ⟨9, _⟩ => ⟨S256x128, .f32⟩
  | _, _ => ⟨S1x256x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S256x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2880x16384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S23x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x16384 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Printed.Conds.lean ====
/-
The two conditions of the kernel body (first grid point, last grid point), which windows are idle where, and the
names of the staging buffers the body is handed at a point.
This is about the kernel as printed, at any float instance without named constants; the modules under Body/ say the
same of the idealized kernel.
-/
module

public import proofs.«01_k».proof.Proof.Gen.Kernel.Frame
public import proofs.«01_k».proof.Proof.Gen.Kernel.Skeleton

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2880x1024 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S23x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x768 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x768 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x64 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1024 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x128 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S2880x256 .f32 := Memref.whole cc0_scratch0
/-- The scratch `arg11` the kernel carries between points, as a view: what it holds is stated through it. -/
abbrev VS0_0 : View sig .tc .vmem S2880x256 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Body

end
-- ==== Proof.Printed.RunFirst.lean ====
/-
The body at the first grid point: the accumulator is zeroed, whatever it held, and then added to.
This is about the kernel as printed, at any float instance without named constants; the modules under Body/ say the
same of the idealized kernel.
-/
module

public import proofs.«01_k».proof.Proof.Printed.Conds

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 6000000 in
/-- The body at the first grid point: the accumulator is zeroed, whatever it held, and then added to. The result is the list of pieces (last first) each buffer is left with, and the proof that the body runs to a continuation that holds the buffers so written. What the scale window held before the body is `xo9`; only the pieces of that window depend on it. -/
noncomputable def runFirst (c : Dev nD) (i : grid0.Coords) (arg1 : Memref sig .tc .vmem S256x1024 .bf16) (harg1 : arg1.IsWhole) (arg2 : Memref sig .tc .vmem S2880x1024 .fp8e4m3) (harg2 : arg2.IsWhole) (arg3 : Memref sig .tc .smem S23x128 .f32) (harg3 : arg3.IsWhole) (arg4 : Memref sig .tc .vmem S1x2048 .f32) (harg4 : arg4.IsWhole) (arg5 : Memref sig .tc .vmem S1x768 .f32) (harg5 : arg5.IsWhole) (arg6 : Memref sig .tc .vmem S256x2048 .bf16) (harg6 : arg6.IsWhole) (arg7 : Memref sig .tc .vmem S256x768 .bf16) (harg7 : arg7.IsWhole) (arg8 : Memref sig .tc .vmem S256x64 .bf16) (harg8 : arg8.IsWhole) (arg9 : Memref sig .tc .vmem S256x1024 .fp8e4m3) (harg9 : arg9.IsWhole) (arg10 : Memref sig .tc .vmem S256x128 .f32) (harg10 : arg10.IsWhole) (arg11 : Memref sig .tc .vmem S2880x256 .f32) (harg11 : arg11.IsWhole) (hc0 : cond0_0 i) (hc1 : ¬cond0_1 i)
    (x0 : Vec F S256x1024 .bf16) (x1 : Vec F S2880x1024 .fp8e4m3) (x2 : Vec F S23x128 .f32) (x3 : Vec F S1x2048 .f32) (x4 : Vec F S1x768 .f32) :
    Σ' (L5 : List (View.Piece (Elt F) S256x2048 .bf16)), Σ' (L6 : List (View.Piece (Elt F) S256x768 .bf16)), Σ' (L7 : List (View.Piece (Elt F) S256x64 .bf16)), Σ' (L8 : List (View.Piece (Elt F) S256x1024 .fp8e4m3)), Σ' (L9 : Vec F S256x128 .f32 → List (View.Piece (Elt F) S256x128 .f32)), { LS0 : List (View.Piece (Elt F) S2880x256 .f32) //
      ∀ (xo9 : Vec F S256x128 .f32) (xi5 : Vec F S256x2048 .bf16) (xi6 : Vec F S256x768 .bf16) (xi7 : Vec F S256x64 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ owns (c : Thread nD τ) arg8 fullShare xi7 ∗ (∃ d, owns (c : Thread nD τ) arg9 fullShare d) ∗ owns (c : Thread nD τ) arg10 fullShare xo9 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ owns (c : Thread nD τ) arg8 fullShare xi7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f (L9 xo9)) ∗ (∃ f, arg11.view.loc (c : Thread nD τ) ↦[arg11.view.set]{fullShare} arg11.view.writes (Elt F) f LS0)) -∗ K ⟨⟩))
          ⊢ wp frame (wpE (defs₀ (F := F)) Variants.none c none) E (cc0_mla_a_proj i arg1 harg1 arg2 harg2 arg3 harg3 arg4 harg4 arg5 harg5 arg6 harg6 arg7 harg7 arg8 harg8 arg9 harg9 arg10 harg10 arg11 harg11) K } := by
  refine ⟨[], [], [], ?_, ?_, ?_, fun xo9 xi5 xi6 xi7 E K => ?run⟩
  case run =>
    simp only [cc0_mla_a_proj_eq_skeleton]; unfold cc0_mla_a_proj_skel
    simp only [k0_part64_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _; iexact HS0

end Cert.Kernel.Body

end
-- ==== Proof.Printed.RunMid.lean ====
/-
The body at a grid point that is neither the first nor the last: the accumulator, at `xs0` before, is added to.
This is about the kernel as printed, at any float instance without named constants; the modules under Body/ say the
same of the idealized kernel.
-/
module

public import proofs.«01_k».proof.Proof.Printed.RunFirst

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 6000000 in
/-- The body at a grid point that is neither the first nor the last: the accumulator, at `xs0` before, is added to. The result is the list of pieces (last first) each buffer is left with, and the proof that the body runs to a continuation that holds the buffers so written. What the scale window held before the body is `xo9`; only the pieces of that window depend on it. -/
noncomputable def runMid (c : Dev nD) (i : grid0.Coords) (arg1 : Memref sig .tc .vmem S256x1024 .bf16) (harg1 : arg1.IsWhole) (arg2 : Memref sig .tc .vmem S2880x1024 .fp8e4m3) (harg2 : arg2.IsWhole) (arg3 : Memref sig .tc .smem S23x128 .f32) (harg3 : arg3.IsWhole) (arg4 : Memref sig .tc .vmem S1x2048 .f32) (harg4 : arg4.IsWhole) (arg5 : Memref sig .tc .vmem S1x768 .f32) (harg5 : arg5.IsWhole) (arg6 : Memref sig .tc .vmem S256x2048 .bf16) (harg6 : arg6.IsWhole) (arg7 : Memref sig .tc .vmem S256x768 .bf16) (harg7 : arg7.IsWhole) (arg8 : Memref sig .tc .vmem S256x64 .bf16) (harg8 : arg8.IsWhole) (arg9 : Memref sig .tc .vmem S256x1024 .fp8e4m3) (harg9 : arg9.IsWhole) (arg10 : Memref sig .tc .vmem S256x128 .f32) (harg10 : arg10.IsWhole) (arg11 : Memref sig .tc .vmem S2880x256 .f32) (harg11 : arg11.IsWhole) (hc0 : ¬cond0_0 i) (hc1 : ¬cond0_1 i)
    (x0 : Vec F S256x1024 .bf16) (x1 : Vec F S2880x1024 .fp8e4m3) (x2 : Vec F S23x128 .f32) (x3 : Vec F S1x2048 .f32) (x4 : Vec F S1x768 .f32) (xs0 : Vec F S2880x256 .f32) :
    Σ' (L5 : List (View.Piece (Elt F) S256x2048 .bf16)), Σ' (L6 : List (View.Piece (Elt F) S256x768 .bf16)), Σ' (L7 : List (View.Piece (Elt F) S256x64 .bf16)), Σ' (L8 : List (View.Piece (Elt F) S256x1024 .fp8e4m3)), Σ' (L9 : Vec F S256x128 .f32 → List (View.Piece (Elt F) S256x128 .f32)), { LS0 : List (View.Piece (Elt F) S2880x256 .f32) //
      ∀ (xo9 : Vec F S256x128 .f32) (xi5 : Vec F S256x2048 .bf16) (xi6 : Vec F S256x768 .bf16) (xi7 : Vec F S256x64 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ owns (c : Thread nD τ) arg8 fullShare xi7 ∗ (∃ d, owns (c : Thread nD τ) arg9 fullShare d) ∗ owns (c : Thread nD τ) arg10 fullShare xo9 ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ owns (c : Thread nD τ) arg8 fullShare xi7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f (L9 xo9)) ∗ (∃ f, arg11.view.loc (c : Thread nD τ) ↦[arg11.view.set]{fullShare} arg11.view.writes (Elt F) f LS0)) -∗ K ⟨⟩))
          ⊢ wp frame (wpE (defs₀ (F := F)) Variants.none c none) E (cc0_mla_a_proj i arg1 harg1 arg2 harg2 arg3 harg3 arg4 harg4 arg5 harg5 arg6 harg6 arg7 harg7 arg8 harg8 arg9 harg9 arg10 harg10 arg11 harg11) K } := by
  refine ⟨[], [], [], ?_, ?_, ?_, fun xo9 xi5 xi6 xi7 E K => ?run⟩
  case run =>
    simp only [cc0_mla_a_proj_eq_skeleton]; unfold cc0_mla_a_proj_skel
    simp only [k0_part64_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _; iexact HS0

end Cert.Kernel.Body

end
-- ==== Proof.Printed.RunLast.lean ====
/-
The body at the last grid point: the accumulator, at `xs0` before, is added to, and the three normalised results are stored.
This is about the kernel as printed, at any float instance without named constants; the modules under Body/ say the
same of the idealized kernel.
-/
module

public import proofs.«01_k».proof.Proof.Printed.RunMid

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 6000000 in
/-- The body at the last grid point: the accumulator, at `xs0` before, is added to, and the three normalised results are stored. The result is the list of pieces (last first) each buffer is left with, and the proof that the body runs to a continuation that holds the buffers so written. What the scale window held before the body is `xo9`; only the pieces of that window depend on it. -/
noncomputable def runLast (c : Dev nD) (i : grid0.Coords) (arg1 : Memref sig .tc .vmem S256x1024 .bf16) (harg1 : arg1.IsWhole) (arg2 : Memref sig .tc .vmem S2880x1024 .fp8e4m3) (harg2 : arg2.IsWhole) (arg3 : Memref sig .tc .smem S23x128 .f32) (harg3 : arg3.IsWhole) (arg4 : Memref sig .tc .vmem S1x2048 .f32) (harg4 : arg4.IsWhole) (arg5 : Memref sig .tc .vmem S1x768 .f32) (harg5 : arg5.IsWhole) (arg6 : Memref sig .tc .vmem S256x2048 .bf16) (harg6 : arg6.IsWhole) (arg7 : Memref sig .tc .vmem S256x768 .bf16) (harg7 : arg7.IsWhole) (arg8 : Memref sig .tc .vmem S256x64 .bf16) (harg8 : arg8.IsWhole) (arg9 : Memref sig .tc .vmem S256x1024 .fp8e4m3) (harg9 : arg9.IsWhole) (arg10 : Memref sig .tc .vmem S256x128 .f32) (harg10 : arg10.IsWhole) (arg11 : Memref sig .tc .vmem S2880x256 .f32) (harg11 : arg11.IsWhole) (hc0 : ¬cond0_0 i) (hc1 : cond0_1 i)
    (x0 : Vec F S256x1024 .bf16) (x1 : Vec F S2880x1024 .fp8e4m3) (x2 : Vec F S23x128 .f32) (x3 : Vec F S1x2048 .f32) (x4 : Vec F S1x768 .f32) (xs0 : Vec F S2880x256 .f32) :
    Σ' (L5 : List (View.Piece (Elt F) S256x2048 .bf16)), Σ' (L6 : List (View.Piece (Elt F) S256x768 .bf16)), Σ' (L7 : List (View.Piece (Elt F) S256x64 .bf16)), Σ' (L8 : List (View.Piece (Elt F) S256x1024 .fp8e4m3)), Σ' (L9 : Vec F S256x128 .f32 → List (View.Piece (Elt F) S256x128 .f32)), { LS0 : List (View.Piece (Elt F) S2880x256 .f32) //
      ∀ (xo9 : Vec F S256x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xo9 ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f (L9 xo9)) ∗ (∃ f, arg11.view.loc (c : Thread nD τ) ↦[arg11.view.set]{fullShare} arg11.view.writes (Elt F) f LS0)) -∗ K ⟨⟩))
          ⊢ wp frame (wpE (defs₀ (F := F)) Variants.none c none) E (cc0_mla_a_proj i arg1 harg1 arg2 harg2 arg3 harg3 arg4 harg4 arg5 harg5 arg6 harg6 arg7 harg7 arg8 harg8 arg9 harg9 arg10 harg10 arg11 harg11) K } := by
  refine ⟨?_, ?_, ?_, ?_, ?_, ?_, fun xo9 E K => ?run⟩
  case run =>
    simp only [cc0_mla_a_proj_eq_skeleton]; unfold cc0_mla_a_proj_skel
    simp only [k0_part64_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%f9, %hf9, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg10.eq_unread hf9; obtain rfl := harg11.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    iexists _; iexact HS0

end Cert.Kernel.Body

end
-- ==== Proof.Printed.Points.lean ====
/-
The body at each of the sixteen grid points, and that what it stores covers the buffers it stores to.
This is about the kernel as printed, at any float instance without named constants; the modules under Body/ say the
same of the idealized kernel.
-/
module

public import proofs.«01_k».proof.Proof.Printed.RunLast

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Output window 5's staging buffer as a view, through which the contents are stated. -/
abbrev VO0_5 : View sig .tc .vmem S256x2048 .bf16 := (Memref.whole cc0_stg5_0 : Memref sig .tc .vmem S256x2048 .bf16).view
/-- Output window 6's staging buffer as a view, through which the contents are stated. -/
abbrev VO0_6 : View sig .tc .vmem S256x768 .bf16 := (Memref.whole cc0_stg6_0 : Memref sig .tc .vmem S256x768 .bf16).view
/-- Output window 7's staging buffer as a view, through which the contents are stated. -/
abbrev VO0_7 : View sig .tc .vmem S256x64 .bf16 := (Memref.whole cc0_stg7_0 : Memref sig .tc .vmem S256x64 .bf16).view
/-- Output window 8's staging buffer as a view, through which the contents are stated. -/
abbrev VO0_8 : View sig .tc .vmem S256x1024 .fp8e4m3 := (Memref.whole cc0_stg8_0 : Memref sig .tc .vmem S256x1024 .fp8e4m3).view
/-- Output window 9's staging buffer as a view, through which the contents are stated. -/
abbrev VO0_9 : View sig .tc .vmem S256x128 .f32 := (Memref.whole cc0_stg9_0 : Memref sig .tc .vmem S256x128 .f32).view
/-- Window 5 is idle at every point but the last, is not written back there, and is live at the last. -/
theorem idle0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem live0_5 : ∀ t : Fin cfg0.N, cond0_1 (grid0.coords t) → cfg0.idle 5 (grid0.coords t) = false := by decide +kernel
/-- Window 6 is idle at every point but the last, is not written back there, and is live at the last. -/
theorem idle0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem live0_6 : ∀ t : Fin cfg0.N, cond0_1 (grid0.coords t) → cfg0.idle 6 (grid0.coords t) = false := by decide +kernel
/-- Window 7 is idle at every point but the last, is not written back there, and is live at the last. -/
theorem idle0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem live0_7 : ∀ t : Fin cfg0.N, cond0_1 (grid0.coords t) → cfg0.idle 7 (grid0.coords t) = false := by decide +kernel
/-- Window 8 is live everywhere. -/
theorem live0_8 : ∀ t : Fin cfg0.N, cfg0.idle 8 (grid0.coords t) = false := by decide +kernel

/-- The body's run at the first grid point `t`, on that point's staging buffers and the blocks the point is given. -/
abbrev firstAt (c : Dev nD) (t : Fin cfg0.N) (h0 : t.val % 16 = 0) (h1 : ¬t.val % 16 = 15) :=
  runFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t)

/-- The pieces stored in window 8 there cover its block. -/
theorem firstCover8 (c : Dev nD) (t : Fin cfg0.N) (h0 : t.val % 16 = 0) (h1 : ¬t.val % 16 = 15) (y : S256x1024.Idx) :
    ∃ pc ∈ (firstAt m c t h0 h1).2.2.2.1, y ∈ pc.1.set :=
  View.cover_of_tiledL ((firstAt m c t h0 h1).2.2.2.1) S256x128.size (by sl_kernel_rfl) y

/-- The pieces stored in window 9 there cover its block. -/
theorem firstCover9 (c : Dev nD) (t : Fin cfg0.N) (h0 : t.val % 16 = 0) (h1 : ¬t.val % 16 = 15) (xo : Vec F S256x128 .f32) (y : S256x128.Idx) :
    ∃ pc ∈ (firstAt m c t h0 h1).2.2.2.2.1 xo, y ∈ pc.1.set :=
  View.cover_of_tiledL ((firstAt m c t h0 h1).2.2.2.2.1 xo) S256x128.size (by sl_kernel_rfl) y

/-- The pieces stored in the accumulator there cover it. -/
theorem firstCoverAcc (c : Dev nD) (t : Fin cfg0.N) (h0 : t.val % 16 = 0) (h1 : ¬t.val % 16 = 15) (y : S2880x256.Idx) :
    ∃ pc ∈ (firstAt m c t h0 h1).2.2.2.2.2.1, y ∈ pc.1.set :=
  View.cover_of_wholeMem ((firstAt m c t h0 h1).2.2.2.2.2.1) (by sl_whole_mem) y

/-- The body's run at a middle grid point `t`, on that point's staging buffers and the blocks the point is given. -/
abbrev midAt (c : Dev nD) (t : Fin cfg0.N) (h0 : ¬t.val % 16 = 0) (h1 : ¬t.val % 16 = 15) (acc : Vec F S2880x256 .f32) :=
  runMid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) acc

/-- The pieces stored in window 8 there cover its block. -/
theorem midCover8 (c : Dev nD) (t : Fin cfg0.N) (h0 : ¬t.val % 16 = 0) (h1 : ¬t.val % 16 = 15) (acc : Vec F S2880x256 .f32) (y : S256x1024.Idx) :
    ∃ pc ∈ (midAt m c t h0 h1 acc).2.2.2.1, y ∈ pc.1.set :=
  View.cover_of_tiledL ((midAt m c t h0 h1 acc).2.2.2.1) S256x128.size (by sl_kernel_rfl) y

/-- The pieces stored in window 9 there cover its block. -/
theorem midCover9 (c : Dev nD) (t : Fin cfg0.N) (h0 : ¬t.val % 16 = 0) (h1 : ¬t.val % 16 = 15) (acc : Vec F S2880x256 .f32) (xo : Vec F S256x128 .f32) (y : S256x128.Idx) :
    ∃ pc ∈ (midAt m c t h0 h1 acc).2.2.2.2.1 xo, y ∈ pc.1.set :=
  View.cover_of_tiledL ((midAt m c t h0 h1 acc).2.2.2.2.1 xo) S256x128.size (by sl_kernel_rfl) y

/-- The pieces stored in the accumulator there cover it. -/
theorem midCoverAcc (c : Dev nD) (t : Fin cfg0.N) (h0 : ¬t.val % 16 = 0) (h1 : ¬t.val % 16 = 15) (acc : Vec F S2880x256 .f32) (y : S2880x256.Idx) :
    ∃ pc ∈ (midAt m c t h0 h1 acc).2.2.2.2.2.1, y ∈ pc.1.set :=
  View.cover_of_tiledBy ((midAt m c t h0 h1 acc).2.2.2.2.2.1) ![64, 256] (by sl_kernel_rfl) y

/-- The body's run at the last grid point `t`, on that point's staging buffers and the blocks the point is given. -/
abbrev lastAt (c : Dev nD) (t : Fin cfg0.N) (h0 : ¬t.val % 16 = 0) (h1 : t.val % 16 = 15) (acc : Vec F S2880x256 .f32) :=
  runLast c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) acc

/-- The pieces stored in window 5 there cover its block. -/
theorem lastCover5 (c : Dev nD) (t : Fin cfg0.N) (h0 : ¬t.val % 16 = 0) (h1 : t.val % 16 = 15) (acc : Vec F S2880x256 .f32) (y : S256x2048.Idx) :
    ∃ pc ∈ (lastAt m c t h0 h1 acc).1, y ∈ pc.1.set :=
  View.cover_of_tiledL ((lastAt m c t h0 h1 acc).1) S256x128.size (by sl_kernel_rfl) y

/-- The pieces stored in window 6 there cover its block. -/
theorem lastCover6 (c : Dev nD) (t : Fin cfg0.N) (h0 : ¬t.val % 16 = 0) (h1 : t.val % 16 = 15) (acc : Vec F S2880x256 .f32) (y : S256x768.Idx) :
    ∃ pc ∈ (lastAt m c t h0 h1 acc).2.1, y ∈ pc.1.set :=
  View.cover_of_tiledL ((lastAt m c t h0 h1 acc).2.1) S256x128.size (by sl_kernel_rfl) y

/-- The pieces stored in window 7 there cover its block. -/
theorem lastCover7 (c : Dev nD) (t : Fin cfg0.N) (h0 : ¬t.val % 16 = 0) (h1 : t.val % 16 = 15) (acc : Vec F S2880x256 .f32) (y : S256x64.Idx) :
    ∃ pc ∈ (lastAt m c t h0 h1 acc).2.2.1, y ∈ pc.1.set :=
  View.cover_of_tiledL ((lastAt m c t h0 h1 acc).2.2.1) S256x64.size (by sl_kernel_rfl) y

/-- The pieces stored in window 8 there cover its block. -/
theorem lastCover8 (c : Dev nD) (t : Fin cfg0.N) (h0 : ¬t.val % 16 = 0) (h1 : t.val % 16 = 15) (acc : Vec F S2880x256 .f32) (y : S256x1024.Idx) :
    ∃ pc ∈ (lastAt m c t h0 h1 acc).2.2.2.1, y ∈ pc.1.set :=
  View.cover_of_tiledL ((lastAt m c t h0 h1 acc).2.2.2.1) S256x128.size (by sl_kernel_rfl) y

/-- The pieces stored in window 9 there cover its block. -/
theorem lastCover9 (c : Dev nD) (t : Fin cfg0.N) (h0 : ¬t.val % 16 = 0) (h1 : t.val % 16 = 15) (acc : Vec F S2880x256 .f32) (xo : Vec F S256x128 .f32) (y : S256x128.Idx) :
    ∃ pc ∈ (lastAt m c t h0 h1 acc).2.2.2.2.1 xo, y ∈ pc.1.set :=
  View.cover_of_tiledL ((lastAt m c t h0 h1 acc).2.2.2.2.1 xo) S256x128.size (by sl_kernel_rfl) y

/-- The pieces stored in the accumulator there cover it. -/
theorem lastCoverAcc (c : Dev nD) (t : Fin cfg0.N) (h0 : ¬t.val % 16 = 0) (h1 : t.val % 16 = 15) (acc : Vec F S2880x256 .f32) (y : S2880x256.Idx) :
    ∃ pc ∈ (lastAt m c t h0 h1 acc).2.2.2.2.2.1, y ∈ pc.1.set :=
  View.cover_of_tiledBy ((lastAt m c t h0 h1 acc).2.2.2.2.2.1) ![64, 256] (by sl_kernel_rfl) y

end Cert.Kernel.Body

end
-- ==== Proof.Printed.Data.lean ====
/-
What the buffers hold after each grid point, and the proof data of the pipeline that says so.
This is about the kernel as printed, at any float instance without named constants; the modules under Body/ say the
same of the idealized kernel.
-/
module

public import proofs.«01_k».proof.Proof.Printed.Points

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after a point -/

/-- The accumulator after point `t`, if it held `acc` before it. -/
def accStep (c : Dev nD) (t : Fin cfg0.N) (acc : Vec F S2880x256 .f32) : Vec F S2880x256 .f32 :=
  if h0 : t.val % 16 = 0 then
    if h1 : t.val % 16 = 15 then acc
    else VS0_0.read (Elt F) (VS0_0.writes (Elt F) VS0_0.junk (firstAt m c t h0 h1).2.2.2.2.2.1)
  else
    if h1 : t.val % 16 = 15 then VS0_0.read (Elt F) (VS0_0.writes (Elt F) VS0_0.junk (lastAt m c t h0 h1 acc).2.2.2.2.2.1)
    else VS0_0.read (Elt F) (VS0_0.writes (Elt F) VS0_0.junk (midAt m c t h0 h1 acc).2.2.2.2.2.1)

/-- The accumulator before point `n`: at the first point a placeholder, for the body zeroes it there. -/
def accBefore (c : Dev nD) : (n : ℕ) → n ≤ cfg0.N → Vec F S2880x256 .f32
  | 0, _ => VS0_0.read (Elt F) VS0_0.junk
  | n + 1, hn => accStep m c ⟨n, hn⟩ (accBefore c n (Nat.le_of_succ_le hn))

/-- The accumulator before point `t`. -/
abbrev accAt (c : Dev nD) (t : Fin cfg0.N) : Vec F S2880x256 .f32 := accBefore m c t.val (Nat.le_of_lt t.isLt)

/-- The codes block the body leaves at point `t`. -/
def codesAt (c : Dev nD) (t : Fin cfg0.N) : Vec F S256x1024 .fp8e4m3 :=
  if h0 : t.val % 16 = 0 then
    if h1 : t.val % 16 = 15 then VO0_8.read (Elt F) VO0_8.junk
    else VO0_8.read (Elt F) (VO0_8.writes (Elt F) VO0_8.junk (firstAt m c t h0 h1).2.2.2.1)
  else
    if h1 : t.val % 16 = 15 then VO0_8.read (Elt F) (VO0_8.writes (Elt F) VO0_8.junk (lastAt m c t h0 h1 (accAt m c t)).2.2.2.1)
    else VO0_8.read (Elt F) (VO0_8.writes (Elt F) VO0_8.junk (midAt m c t h0 h1 (accAt m c t)).2.2.2.1)

/-- The scale block the body leaves at point `t`, if it found `X` there. -/
def scalesAt (c : Dev nD) (t : Fin cfg0.N) (X : Vec F S256x128 .f32) : Vec F S256x128 .f32 :=
  if h0 : t.val % 16 = 0 then
    if h1 : t.val % 16 = 15 then X
    else VO0_9.read (Elt F) (VO0_9.writes (Elt F) VO0_9.junk ((firstAt m c t h0 h1).2.2.2.2.1 X))
  else
    if h1 : t.val % 16 = 15 then VO0_9.read (Elt F) (VO0_9.writes (Elt F) VO0_9.junk ((lastAt m c t h0 h1 (accAt m c t)).2.2.2.2.1 X))
    else VO0_9.read (Elt F) (VO0_9.writes (Elt F) VO0_9.junk ((midAt m c t h0 h1 (accAt m c t)).2.2.2.2.1 X))

/-- The block of result 1 the body leaves at the last point (a placeholder elsewhere). -/
def qAt (c : Dev nD) (t : Fin cfg0.N) : Vec F S256x2048 .bf16 :=
  if h0 : t.val % 16 = 0 then VO0_5.read (Elt F) VO0_5.junk
  else
    if h1 : t.val % 16 = 15 then VO0_5.read (Elt F) (VO0_5.writes (Elt F) VO0_5.junk (lastAt m c t h0 h1 (accAt m c t)).1)
    else VO0_5.read (Elt F) VO0_5.junk

/-- The block of result 2 the body leaves at the last point (a placeholder elsewhere). -/
def kvAt (c : Dev nD) (t : Fin cfg0.N) : Vec F S256x768 .bf16 :=
  if h0 : t.val % 16 = 0 then VO0_6.read (Elt F) VO0_6.junk
  else
    if h1 : t.val % 16 = 15 then VO0_6.read (Elt F) (VO0_6.writes (Elt F) VO0_6.junk (lastAt m c t h0 h1 (accAt m c t)).2.1)
    else VO0_6.read (Elt F) VO0_6.junk

/-- The block of result 3 the body leaves at the last point (a placeholder elsewhere). -/
def peAt (c : Dev nD) (t : Fin cfg0.N) : Vec F S256x64 .bf16 :=
  if h0 : t.val % 16 = 0 then VO0_7.read (Elt F) VO0_7.junk
  else
    if h1 : t.val % 16 = 15 then VO0_7.read (Elt F) (VO0_7.writes (Elt F) VO0_7.junk (lastAt m c t h0 h1 (accAt m c t)).2.2.1)
    else VO0_7.read (Elt F) VO0_7.junk

theorem accStep_first (c : Dev nD) (t : Fin cfg0.N) (acc : Vec F S2880x256 .f32) (h0 : t.val % 16 = 0) (h1 : ¬t.val % 16 = 15) :
    accStep m c t acc = VS0_0.read (Elt F) (VS0_0.writes (Elt F) VS0_0.junk (firstAt m c t h0 h1).2.2.2.2.2.1) := by
  unfold accStep; exact (dif_pos h0).trans (dif_neg h1)
theorem accStep_mid (c : Dev nD) (t : Fin cfg0.N) (acc : Vec F S2880x256 .f32) (h0 : ¬t.val % 16 = 0) (h1 : ¬t.val % 16 = 15) :
    accStep m c t acc = VS0_0.read (Elt F) (VS0_0.writes (Elt F) VS0_0.junk (midAt m c t h0 h1 acc).2.2.2.2.2.1) := by
  unfold accStep; exact (dif_neg h0).trans (dif_neg h1)
theorem accStep_last (c : Dev nD) (t : Fin cfg0.N) (acc : Vec F S2880x256 .f32) (h0 : ¬t.val % 16 = 0) (h1 : t.val % 16 = 15) :
    accStep m c t acc = VS0_0.read (Elt F) (VS0_0.writes (Elt F) VS0_0.junk (lastAt m c t h0 h1 acc).2.2.2.2.2.1) := by
  unfold accStep; exact (dif_neg h0).trans (dif_pos h1)
theorem codesAt_first (c : Dev nD) (t : Fin cfg0.N)  (h0 : t.val % 16 = 0) (h1 : ¬t.val % 16 = 15) :
    codesAt m c t = VO0_8.read (Elt F) (VO0_8.writes (Elt F) VO0_8.junk (firstAt m c t h0 h1).2.2.2.1) := by
  unfold codesAt; exact (dif_pos h0).trans (dif_neg h1)
theorem codesAt_mid (c : Dev nD) (t : Fin cfg0.N)  (h0 : ¬t.val % 16 = 0) (h1 : ¬t.val % 16 = 15) :
    codesAt m c t = VO0_8.read (Elt F) (VO0_8.writes (Elt F) VO0_8.junk (midAt m c t h0 h1 (accAt m c t)).2.2.2.1) := by
  unfold codesAt; exact (dif_neg h0).trans (dif_neg h1)
theorem codesAt_last (c : Dev nD) (t : Fin cfg0.N)  (h0 : ¬t.val % 16 = 0) (h1 : t.val % 16 = 15) :
    codesAt m c t = VO0_8.read (Elt F) (VO0_8.writes (Elt F) VO0_8.junk (lastAt m c t h0 h1 (accAt m c t)).2.2.2.1) := by
  unfold codesAt; exact (dif_neg h0).trans (dif_pos h1)
theorem scalesAt_first (c : Dev nD) (t : Fin cfg0.N) (X : Vec F S256x128 .f32) (h0 : t.val % 16 = 0) (h1 : ¬t.val % 16 = 15) :
    scalesAt m c t X = VO0_9.read (Elt F) (VO0_9.writes (Elt F) VO0_9.junk ((firstAt m c t h0 h1).2.2.2.2.1 X)) := by
  unfold scalesAt; exact (dif_pos h0).trans (dif_neg h1)
theorem scalesAt_mid (c : Dev nD) (t : Fin cfg0.N) (X : Vec F S256x128 .f32) (h0 : ¬t.val % 16 = 0) (h1 : ¬t.val % 16 = 15) :
    scalesAt m c t X = VO0_9.read (Elt F) (VO0_9.writes (Elt F) VO0_9.junk ((midAt m c t h0 h1 (accAt m c t)).2.2.2.2.1 X)) := by
  unfold scalesAt; exact (dif_neg h0).trans (dif_neg h1)
theorem scalesAt_last (c : Dev nD) (t : Fin cfg0.N) (X : Vec F S256x128 .f32) (h0 : ¬t.val % 16 = 0) (h1 : t.val % 16 = 15) :
    scalesAt m c t X = VO0_9.read (Elt F) (VO0_9.writes (Elt F) VO0_9.junk ((lastAt m c t h0 h1 (accAt m c t)).2.2.2.2.1 X)) := by
  unfold scalesAt; exact (dif_neg h0).trans (dif_pos h1)
theorem qAt_last (c : Dev nD) (t : Fin cfg0.N) (h0 : ¬t.val % 16 = 0) (h1 : t.val % 16 = 15) :
    qAt m c t = VO0_5.read (Elt F) (VO0_5.writes (Elt F) VO0_5.junk (lastAt m c t h0 h1 (accAt m c t)).1) := by
  unfold qAt; exact (dif_neg h0).trans (dif_pos h1)
theorem kvAt_last (c : Dev nD) (t : Fin cfg0.N) (h0 : ¬t.val % 16 = 0) (h1 : t.val % 16 = 15) :
    kvAt m c t = VO0_6.read (Elt F) (VO0_6.writes (Elt F) VO0_6.junk (lastAt m c t h0 h1 (accAt m c t)).2.1) := by
  unfold kvAt; exact (dif_neg h0).trans (dif_pos h1)
theorem peAt_last (c : Dev nD) (t : Fin cfg0.N) (h0 : ¬t.val % 16 = 0) (h1 : t.val % 16 = 15) :
    peAt m c t = VO0_7.read (Elt F) (VO0_7.writes (Elt F) VO0_7.junk (lastAt m c t h0 h1 (accAt m c t)).2.2.1) := by
  unfold peAt; exact (dif_neg h0).trans (dif_pos h1)

/-! ## The invariant and the proof data -/

/-- The invariant before point `n`: at first the accumulator and the generator register at anything, later the
    accumulator at what the points before left in it. -/
def inv (c : Dev nD) : (n : ℕ) → n ≤ cfg0.N → sProp 𝕄
  | 0, _ => Pipeline.ΦA spec0 c
  | n + 1, hn => iprop(iprop(owns (c : Thread nD τ) scM0_0 fullShare (accBefore m c (n + 1) hn)) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) scM0_0 fullShare (accStep m c ⟨n, hn⟩ (accBefore m c n (Nat.le_of_lt hn)))) ∗ (∃ r, prngReg c r)) := rfl

theorem inv_pos (c : Dev nD) (n : ℕ) (h : n ≤ cfg0.N) (hz : n ≠ 0) :
    inv m c n h = iprop(iprop(owns (c : Thread nD τ) scM0_0 fullShare (accBefore m c n h)) ∗ (∃ r, prngReg c r)) := by
  cases n with
  | zero => exact absurd rfl hz
  | succ n => rfl

/-- What each window holds after the body, for the windows whose contents are determined; the scale window's entry is
    a placeholder (it is related to what was found there in `rdat`). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => qAt m c t
    | ⟨6, _⟩ => kvAt m c t
    | ⟨7, _⟩ => peAt m c t
    | ⟨8, _⟩ => codesAt m c t
    | ⟨9, _⟩ => VO0_9.read (Elt F) VO0_9.junk
  Φ t := inv m c t.val (Nat.le_of_lt_succ t.isLt)
  q _ := fullShare
  owed _ := 0

/-- The scale window is the only one whose contents after the body are stated from what the body found. -/
def scaleRel (c : Dev nD) : (w : Fin cfg0.W) → Option (Fin cfg0.N → (Y X : (cfg0.win w).block.Idx → Elt F (cfg0.win w).elt) → Prop)
  | ⟨9, _⟩ => some fun t Y X => X = scalesAt m c t Y
  | _ => none

/-- The proof data: `dats`, with the scale window after the body at `scalesAt` of what the body found in it. -/
def rdat (c : Dev nD) : RDat τ (Elt F) Unit ℕ (UR sig nD τ) ℕ cfg0 c := (dats m 0 c).toR.override (scaleRel m c)

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = qAt m c t := by dsimp only [dats]
theorem after0_6 (c : Dev nD) (t : Fin cfg0.N) : (dats m 0 c).after 6 t = kvAt m c t := by dsimp only [dats]
theorem after0_7 (c : Dev nD) (t : Fin cfg0.N) : (dats m 0 c).after 7 t = peAt m c t := by dsimp only [dats]
theorem after0_8 (c : Dev nD) (t : Fin cfg0.N) : (dats m 0 c).after 8 t = codesAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem rel0 (c : Dev nD) : (rdat m c).after 0 = (dats m 0 c).toR.after 0 := RDat.override_after_of_eq_none _ rfl
theorem rel1 (c : Dev nD) : (rdat m c).after 1 = (dats m 0 c).toR.after 1 := RDat.override_after_of_eq_none _ rfl
theorem rel2 (c : Dev nD) : (rdat m c).after 2 = (dats m 0 c).toR.after 2 := RDat.override_after_of_eq_none _ rfl
theorem rel3 (c : Dev nD) : (rdat m c).after 3 = (dats m 0 c).toR.after 3 := RDat.override_after_of_eq_none _ rfl
theorem rel4 (c : Dev nD) : (rdat m c).after 4 = (dats m 0 c).toR.after 4 := RDat.override_after_of_eq_none _ rfl
theorem rel5 (c : Dev nD) : (rdat m c).after 5 = (dats m 0 c).toR.after 5 := RDat.override_after_of_eq_none _ rfl
theorem rel6 (c : Dev nD) : (rdat m c).after 6 = (dats m 0 c).toR.after 6 := RDat.override_after_of_eq_none _ rfl
theorem rel7 (c : Dev nD) : (rdat m c).after 7 = (dats m 0 c).toR.after 7 := RDat.override_after_of_eq_none _ rfl
theorem rel8 (c : Dev nD) : (rdat m c).after 8 = (dats m 0 c).toR.after 8 := RDat.override_after_of_eq_none _ rfl
theorem rel9 (c : Dev nD) : (rdat m c).after 9 = fun t Y X => X = scalesAt m c t Y := RDat.override_after_of_eq_some _ rfl
theorem finds0 (c : Dev nD) (t : Fin cfg0.N) (X) (h : (rdat m c).Finds 0 t X) : ∃ d, X = (dats m 0 c).before 0 t d :=
  (dats m 0 c).toR_finds 0 t X ((RDat.override_finds _ rfl t X).mp h)
theorem finds1 (c : Dev nD) (t : Fin cfg0.N) (X) (h : (rdat m c).Finds 1 t X) : ∃ d, X = (dats m 0 c).before 1 t d :=
  (dats m 0 c).toR_finds 1 t X ((RDat.override_finds _ rfl t X).mp h)
theorem finds2 (c : Dev nD) (t : Fin cfg0.N) (X) (h : (rdat m c).Finds 2 t X) : ∃ d, X = (dats m 0 c).before 2 t d :=
  (dats m 0 c).toR_finds 2 t X ((RDat.override_finds _ rfl t X).mp h)
theorem finds3 (c : Dev nD) (t : Fin cfg0.N) (X) (h : (rdat m c).Finds 3 t X) : ∃ d, X = (dats m 0 c).before 3 t d :=
  (dats m 0 c).toR_finds 3 t X ((RDat.override_finds _ rfl t X).mp h)
theorem finds4 (c : Dev nD) (t : Fin cfg0.N) (X) (h : (rdat m c).Finds 4 t X) : ∃ d, X = (dats m 0 c).before 4 t d :=
  (dats m 0 c).toR_finds 4 t X ((RDat.override_finds _ rfl t X).mp h)
theorem finds5 (c : Dev nD) (t : Fin cfg0.N) (X) (h : (rdat m c).Finds 5 t X) : ∃ d, X = (dats m 0 c).before 5 t d :=
  (dats m 0 c).toR_finds 5 t X ((RDat.override_finds _ rfl t X).mp h)
theorem finds6 (c : Dev nD) (t : Fin cfg0.N) (X) (h : (rdat m c).Finds 6 t X) : ∃ d, X = (dats m 0 c).before 6 t d :=
  (dats m 0 c).toR_finds 6 t X ((RDat.override_finds _ rfl t X).mp h)
theorem finds7 (c : Dev nD) (t : Fin cfg0.N) (X) (h : (rdat m c).Finds 7 t X) : ∃ d, X = (dats m 0 c).before 7 t d :=
  (dats m 0 c).toR_finds 7 t X ((RDat.override_finds _ rfl t X).mp h)

end Cert.Kernel.Body

end
-- ==== Proof.Printed.Sound.lean ====
/-
The body keeps the invariant and the relation of the proof data, at every grid point.
This is about the kernel as printed, at any float instance without named constants; the modules under Body/ say the
same of the idealized kernel.
-/
module

public import proofs.«01_k».proof.Proof.Printed.Data

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each window is left with is what the proof data says -/

theorem left0 (c : Dev nD) (t : Fin cfg0.N) (Y) : (rdat m c).after 0 t Y (iblk m c 0 t) := by
  rw [rel0]; show (dats m 0 c).Leaves 0 t _
  rw [Dat.Leaves.live_iff _ (.inl (liveAt0_0 t)), ← after0_0]
theorem left1 (c : Dev nD) (t : Fin cfg0.N) (Y) : (rdat m c).after 1 t Y (iblk m c 1 t) := by
  rw [rel1]; show (dats m 0 c).Leaves 1 t _
  rw [Dat.Leaves.live_iff _ (.inl (liveAt0_1 t)), ← after0_1]
theorem left2 (c : Dev nD) (t : Fin cfg0.N) (Y) : (rdat m c).after 2 t Y (iblk m c 2 t) := by
  rw [rel2]; show (dats m 0 c).Leaves 2 t _
  rw [Dat.Leaves.live_iff _ (.inl (liveAt0_2 t)), ← after0_2]
theorem left3 (c : Dev nD) (t : Fin cfg0.N) (Y) : (rdat m c).after 3 t Y (iblk m c 3 t) := by
  rw [rel3]; show (dats m 0 c).Leaves 3 t _
  rw [Dat.Leaves.live_iff _ (.inl (liveAt0_3 t)), ← after0_3]
theorem left4 (c : Dev nD) (t : Fin cfg0.N) (Y) : (rdat m c).after 4 t Y (iblk m c 4 t) := by
  rw [rel4]; show (dats m 0 c).Leaves 4 t _
  rw [Dat.Leaves.live_iff _ (.inl (liveAt0_4 t)), ← after0_4]
theorem left8 (c : Dev nD) (t : Fin cfg0.N) (Y) : (rdat m c).after 8 t Y (codesAt m c t) := by
  rw [rel8]; show (dats m 0 c).Leaves 8 t _
  rw [Dat.Leaves.live_iff _ (.inl (live0_8 t)), ← after0_8]
theorem left9 (c : Dev nD) (t : Fin cfg0.N) (Y) : (rdat m c).after 9 t Y (scalesAt m c t Y) := by
  rw [rel9]
theorem left5_last (c : Dev nD) (t : Fin cfg0.N) (h1 : t.val % 16 = 15) (Y) : (rdat m c).after 5 t Y (qAt m c t) := by
  rw [rel5]; show (dats m 0 c).Leaves 5 t _
  rw [Dat.Leaves.live_iff _ (.inl (live0_5 t ((hcond0_1 t).mpr h1))), ← after0_5]
theorem left5_idle (c : Dev nD) (t : Fin cfg0.N) (h1 : ¬t.val % 16 = 15) (Y) (h : ∃ d, Y = (dats m 0 c).before 5 t d) :
    (rdat m c).after 5 t Y Y := by
  rw [rel5]; show (dats m 0 c).Leaves 5 t _
  rw [Dat.Leaves.idle_iff _ (idle0_5 t fun h => h1 ((hcond0_1 t).mp h)) (noFlush0_5 t fun h => h1 ((hcond0_1 t).mp h))]; exact h
theorem left6_last (c : Dev nD) (t : Fin cfg0.N) (h1 : t.val % 16 = 15) (Y) : (rdat m c).after 6 t Y (kvAt m c t) := by
  rw [rel6]; show (dats m 0 c).Leaves 6 t _
  rw [Dat.Leaves.live_iff _ (.inl (live0_6 t ((hcond0_1 t).mpr h1))), ← after0_6]
theorem left6_idle (c : Dev nD) (t : Fin cfg0.N) (h1 : ¬t.val % 16 = 15) (Y) (h : ∃ d, Y = (dats m 0 c).before 6 t d) :
    (rdat m c).after 6 t Y Y := by
  rw [rel6]; show (dats m 0 c).Leaves 6 t _
  rw [Dat.Leaves.idle_iff _ (idle0_6 t fun h => h1 ((hcond0_1 t).mp h)) (noFlush0_6 t fun h => h1 ((hcond0_1 t).mp h))]; exact h
theorem left7_last (c : Dev nD) (t : Fin cfg0.N) (h1 : t.val % 16 = 15) (Y) : (rdat m c).after 7 t Y (peAt m c t) := by
  rw [rel7]; show (dats m 0 c).Leaves 7 t _
  rw [Dat.Leaves.live_iff _ (.inl (live0_7 t ((hcond0_1 t).mpr h1))), ← after0_7]
theorem left7_idle (c : Dev nD) (t : Fin cfg0.N) (h1 : ¬t.val % 16 = 15) (Y) (h : ∃ d, Y = (dats m 0 c).before 7 t d) :
    (rdat m c).after 7 t Y Y := by
  rw [rel7]; show (dats m 0 c).Leaves 7 t _
  rw [Dat.Leaves.idle_iff _ (idle0_7 t fun h => h1 ((hcond0_1 t).mp h)) (noFlush0_7 t fun h => h1 ((hcond0_1 t).mp h))]; exact h

/-! ## The body at any point -/

set_option maxHeartbeats 9600000 in
/-- The body at point `t`, on its staging buffers: it keeps the invariant and leaves every window in the relation the
    proof data states. -/
theorem sound_body (c : Dev nD) (t : Fin cfg0.N) (y5 : Vec F S256x2048 .bf16) (y6 : Vec F S256x768 .bf16) (y7 : Vec F S256x64 .bf16) (y8 : Vec F S256x1024 .fp8e4m3) (y9 : Vec F S256x128 .f32)
    (f5 : ∃ d, y5 = (dats m 0 c).before 5 t d) (f6 : ∃ d, y6 = (dats m 0 c).before 6 t d) (f7 : ∃ d, y7 = (dats m 0 c).before 7 t d) :
    iprop(inv m c t.val (Nat.le_of_lt t.isLt) ∗ (dats m 0 c).owesAt () t.castSucc
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ owns (c : Thread nD τ) (ms0_5 t) fullShare y5
      ∗ owns (c : Thread nD τ) (ms0_6 t) fullShare y6
      ∗ owns (c : Thread nD τ) (ms0_7 t) fullShare y7
      ∗ owns (c : Thread nD τ) (ms0_8 t) fullShare y8
      ∗ owns (c : Thread nD τ) (ms0_9 t) fullShare y9)
    ⊢ wp frame (wpE (defs₀ (F := F)) Variants.none c none) Set.univ (bodyAt0 t) (fun _ =>
    iprop(inv m c (t.val + 1) t.isLt ∗ (dats m 0 c).owesAt () t.castSucc
      ∗ (∃ X, ⌜(rdat m c).after 0 t (iblk m c 0 t) X⌝ ∗ owns (c : Thread nD τ) (ms0_0 t) fullShare X)
      ∗ (∃ X, ⌜(rdat m c).after 1 t (iblk m c 1 t) X⌝ ∗ owns (c : Thread nD τ) (ms0_1 t) fullShare X)
      ∗ (∃ X, ⌜(rdat m c).after 2 t (iblk m c 2 t) X⌝ ∗ owns (c : Thread nD τ) (ms0_2 t) fullShare X)
      ∗ (∃ X, ⌜(rdat m c).after 3 t (iblk m c 3 t) X⌝ ∗ owns (c : Thread nD τ) (ms0_3 t) fullShare X)
      ∗ (∃ X, ⌜(rdat m c).after 4 t (iblk m c 4 t) X⌝ ∗ owns (c : Thread nD τ) (ms0_4 t) fullShare X)
      ∗ (∃ X, ⌜(rdat m c).after 5 t y5 X⌝ ∗ owns (c : Thread nD τ) (ms0_5 t) fullShare X)
      ∗ (∃ X, ⌜(rdat m c).after 6 t y6 X⌝ ∗ owns (c : Thread nD τ) (ms0_6 t) fullShare X)
      ∗ (∃ X, ⌜(rdat m c).after 7 t y7 X⌝ ∗ owns (c : Thread nD τ) (ms0_7 t) fullShare X)
      ∗ (∃ X, ⌜(rdat m c).after 8 t y8 X⌝ ∗ owns (c : Thread nD τ) (ms0_8 t) fullShare X)
      ∗ (∃ X, ⌜(rdat m c).after 9 t y9 X⌝ ∗ owns (c : Thread nD τ) (ms0_9 t) fullShare X))) := by
  unfold bodyAt0
  have hN : t.val < 16 := lt_of_lt_of_eq t.isLt (show cfg0.N = 16 from N_0)
  rw [inv_succ]
  by_cases h0 : t.val % 16 = 0
  · have h1 : ¬t.val % 16 = 15 := by omega
    have hz : t.val = 0 := by omega
    rw [inv_zero m c _ _ hz, PhiA0_eq]
    rw [accStep_first m c t _ h0 h1]
    iintro ⟨⟨HS0, Hg⟩, Ho, H0, H1, H2, H3, H4, H5, H6, H7, H8, H9⟩
    iapply ((firstAt m c t h0 h1).2.2.2.2.2.2 y9 y5 y6 y7 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [HS0]; · iexact HS0
    iintro ⟨H0, H1, H2, H3, H4, H5, H6, H7, ⟨%e8, H8⟩, ⟨%e9, H9⟩, ⟨%es0, HS0⟩⟩
    isplitl [HS0 Hg]
    · isplitl [HS0]
      · unfold owns; iexists _; isplitr
        swap; · iexact HS0
        ipureintro; exact View.read_writes_of_cover _ _ _ _ _ (firstCoverAcc m c t h0 h1)
      iexact Hg
    isplitl [Ho]; · iexact Ho
    isplitl [H0]
    · iexists _; isplitr; · ipureintro; exact left0 m c t _
      iexact H0
    isplitl [H1]
    · iexists _; isplitr; · ipureintro; exact left1 m c t _
      iexact H1
    isplitl [H2]
    · iexists _; isplitr; · ipureintro; exact left2 m c t _
      iexact H2
    isplitl [H3]
    · iexists _; isplitr; · ipureintro; exact left3 m c t _
      iexact H3
    isplitl [H4]
    · iexists _; isplitr; · ipureintro; exact left4 m c t _
      iexact H4
    isplitl [H5]
    · iexists _; isplitr; · ipureintro; exact left5_idle m c t h1 _ f5
      iexact H5
    isplitl [H6]
    · iexists _; isplitr; · ipureintro; exact left6_idle m c t h1 _ f6
      iexact H6
    isplitl [H7]
    · iexists _; isplitr; · ipureintro; exact left7_idle m c t h1 _ f7
      iexact H7
    isplitl [H8]
    · iexists _; isplitr; · ipureintro; exact left8 m c t _
      unfold owns; iexists _; isplitr
      swap; · iexact H8
      ipureintro; exact (View.read_writes_of_cover _ _ _ _ _ (firstCover8 m c t h0 h1)).trans (codesAt_first m c t h0 h1).symm
    · iexists _; isplitr; · ipureintro; exact left9 m c t _
      unfold owns; iexists _; isplitr
      swap; · iexact H9
      ipureintro; exact (View.read_writes_of_cover _ _ _ _ _ (firstCover9 m c t h0 h1 y9)).trans (scalesAt_first m c t y9 h0 h1).symm
  · have hz : t.val ≠ 0 := by omega
    rw [inv_pos m c _ _ hz]
    by_cases h1 : t.val % 16 = 15
    · rw [accStep_last m c t _ h0 h1]
      iintro ⟨⟨HS0, Hg⟩, Ho, H0, H1, H2, H3, H4, H5, H6, H7, H8, H9⟩
      iapply ((lastAt m c t h0 h1 (accAt m c t)).2.2.2.2.2.2 y9 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexact H9
      isplitl [HS0]; · iexact HS0
      iintro ⟨H0, H1, H2, H3, H4, ⟨%e5, H5⟩, ⟨%e6, H6⟩, ⟨%e7, H7⟩, ⟨%e8, H8⟩, ⟨%e9, H9⟩, ⟨%es0, HS0⟩⟩
      isplitl [HS0 Hg]
      · isplitl [HS0]
        · unfold owns; iexists _; isplitr
          swap; · iexact HS0
          ipureintro; exact View.read_writes_of_cover _ _ _ _ _ (lastCoverAcc m c t h0 h1 (accAt m c t))
        iexact Hg
      isplitl [Ho]; · iexact Ho
      isplitl [H0]
      · iexists _; isplitr; · ipureintro; exact left0 m c t _
        iexact H0
      isplitl [H1]
      · iexists _; isplitr; · ipureintro; exact left1 m c t _
        iexact H1
      isplitl [H2]
      · iexists _; isplitr; · ipureintro; exact left2 m c t _
        iexact H2
      isplitl [H3]
      · iexists _; isplitr; · ipureintro; exact left3 m c t _
        iexact H3
      isplitl [H4]
      · iexists _; isplitr; · ipureintro; exact left4 m c t _
        iexact H4
      isplitl [H5]
      · iexists _; isplitr; · ipureintro; exact left5_last m c t h1 _
        unfold owns; iexists _; isplitr
        swap; · iexact H5
        ipureintro; exact (View.read_writes_of_cover _ _ _ _ _ (lastCover5 m c t h0 h1 (accAt m c t))).trans (qAt_last m c t h0 h1).symm
      isplitl [H6]
      · iexists _; isplitr; · ipureintro; exact left6_last m c t h1 _
        unfold owns; iexists _; isplitr
        swap; · iexact H6
        ipureintro; exact (View.read_writes_of_cover _ _ _ _ _ (lastCover6 m c t h0 h1 (accAt m c t))).trans (kvAt_last m c t h0 h1).symm
      isplitl [H7]
      · iexists _; isplitr; · ipureintro; exact left7_last m c t h1 _
        unfold owns; iexists _; isplitr
        swap; · iexact H7
        ipureintro; exact (View.read_writes_of_cover _ _ _ _ _ (lastCover7 m c t h0 h1 (accAt m c t))).trans (peAt_last m c t h0 h1).symm
      isplitl [H8]
      · iexists _; isplitr; · ipureintro; exact left8 m c t _
        unfold owns; iexists _; isplitr
        swap; · iexact H8
        ipureintro; exact (View.read_writes_of_cover _ _ _ _ _ (lastCover8 m c t h0 h1 (accAt m c t))).trans (codesAt_last m c t h0 h1).symm
      · iexists _; isplitr; · ipureintro; exact left9 m c t _
        unfold owns; iexists _; isplitr
        swap; · iexact H9
        ipureintro; exact (View.read_writes_of_cover _ _ _ _ _ (lastCover9 m c t h0 h1 (accAt m c t) y9)).trans (scalesAt_last m c t y9 h0 h1).symm
    · rw [accStep_mid m c t _ h0 h1]
      iintro ⟨⟨HS0, Hg⟩, Ho, H0, H1, H2, H3, H4, H5, H6, H7, H8, H9⟩
      iapply ((midAt m c t h0 h1 (accAt m c t)).2.2.2.2.2.2 y9 y5 y6 y7 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [HS0]; · iexact HS0
      iintro ⟨H0, H1, H2, H3, H4, H5, H6, H7, ⟨%e8, H8⟩, ⟨%e9, H9⟩, ⟨%es0, HS0⟩⟩
      isplitl [HS0 Hg]
      · isplitl [HS0]
        · unfold owns; iexists _; isplitr
          swap; · iexact HS0
          ipureintro; exact View.read_writes_of_cover _ _ _ _ _ (midCoverAcc m c t h0 h1 (accAt m c t))
        iexact Hg
      isplitl [Ho]; · iexact Ho
      isplitl [H0]
      · iexists _; isplitr; · ipureintro; exact left0 m c t _
        iexact H0
      isplitl [H1]
      · iexists _; isplitr; · ipureintro; exact left1 m c t _
        iexact H1
      isplitl [H2]
      · iexists _; isplitr; · ipureintro; exact left2 m c t _
        iexact H2
      isplitl [H3]
      · iexists _; isplitr; · ipureintro; exact left3 m c t _
        iexact H3
      isplitl [H4]
      · iexists _; isplitr; · ipureintro; exact left4 m c t _
        iexact H4
      isplitl [H5]
      · iexists _; isplitr; · ipureintro; exact left5_idle m c t h1 _ f5
        iexact H5
      isplitl [H6]
      · iexists _; isplitr; · ipureintro; exact left6_idle m c t h1 _ f6
        iexact H6
      isplitl [H7]
      · iexists _; isplitr; · ipureintro; exact left7_idle m c t h1 _ f7
        iexact H7
      isplitl [H8]
      · iexists _; isplitr; · ipureintro; exact left8 m c t _
        unfold owns; iexists _; isplitr
        swap; · iexact H8
        ipureintro; exact (View.read_writes_of_cover _ _ _ _ _ (midCover8 m c t h0 h1 (accAt m c t))).trans (codesAt_mid m c t h0 h1).symm
      · iexists _; isplitr; · ipureintro; exact left9 m c t _
        unfold owns; iexists _; isplitr
        swap; · iexact H9
        ipureintro; exact (View.read_writes_of_cover _ _ _ _ _ (midCover9 m c t h0 h1 (accAt m c t) y9)).trans (scalesAt_mid m c t y9 h0 h1).symm

theorem defs₀_row (t : Fin cfg0.N) :
    defs₀ (F := F) .tc cfg0.body (cfg0.bodyArgs t (cfg0.slots t)) = bodyAt0 t := by
  unfold defs₀; rw [Defs.onTc_tc]

/-- The body obligation of the relational proof data, at every point. -/
theorem body_obligation (c : Dev nD) : (rdat m c).BodyObligation (defs₀ (F := F)) Variants.none () Set.univ := fun t Y hY => by
  have e0 : Y 0 = iblk m c 0 t := by obtain ⟨d, hd⟩ := finds0 m c t _ (hY 0); exact hd.trans (before0_0 m c t d)
  have e1 : Y 1 = iblk m c 1 t := by obtain ⟨d, hd⟩ := finds1 m c t _ (hY 1); exact hd.trans (before0_1 m c t d)
  have e2 : Y 2 = iblk m c 2 t := by obtain ⟨d, hd⟩ := finds2 m c t _ (hY 2); exact hd.trans (before0_2 m c t d)
  have e3 : Y 3 = iblk m c 3 t := by obtain ⟨d, hd⟩ := finds3 m c t _ (hY 3); exact hd.trans (before0_3 m c t d)
  have e4 : Y 4 = iblk m c 4 t := by obtain ⟨d, hd⟩ := finds4 m c t _ (hY 4); exact hd.trans (before0_4 m c t d)
  rw [bigSep_W0, bigSep_W0, defs₀_row, e0, e1, e2, e3, e4]
  exact triple_restated (sound_body m c t (Y 5) (Y 6) (Y 7) (Y 8) (Y 9) (finds5 m c t _ (hY 5)) (finds6 m c t _ (hY 6)) (finds7 m c t _ (hY 7))) rfl .rfl fun _ => .rfl

theorem hin (c : Dev nD) : Pipeline.ΦA spec0 c ⊢ (rdat m c).Φ 0 := by
  rw [show (rdat m c).Φ 0 = inv m c 0 (Nat.zero_le _) from rfl, inv_zero m c 0 _ rfl]
  try exact Idealize.SL.BI.Entails.refl _

theorem hout (c : Dev nD) : (rdat m c).Φ (Fin.last cfg0.N) ⊢ Pipeline.ΦA spec0 c := by
  rw [show (rdat m c).Φ (Fin.last cfg0.N) = inv m c cfg0.N (Nat.le_refl _) from rfl, inv_pos m c _ _ (by have : cfg0.N = 16 := N_0; omega), PhiA0_eq]
  iintro ⟨HS0, Hg⟩
  isplitl [HS0]
  · iexists _; iexact HS0
  iexact Hg

theorem rA_eq (c : Dev nD) (w : Fin cfg0.W) : (rdat m c).A w = V m c (Pipeline.arrRef spec0 w) := A_eq m c w

end Cert.Kernel.Body

end
-- ==== Proof.Printed.Launch.lean ====
/-
The launch of the kernel under the relational proof data.
This is about the kernel as printed, at any float instance without named constants; the modules under Body/ say the
same of the idealized kernel.
-/
module

public import proofs.«01_k».proof.Proof.Printed.Sound

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false

/-- The launch at any relational proof data that the body satisfies: @main ends with every array of the pipeline at contents
    the data allow, every other buffer as the region found it, and every semaphore counter at zero. -/
theorem launch (rd : (c : Dev nD) → RDat τ (Elt F) Unit ℕ (UR sig nD τ) ℕ cfg0 c)
    (hbody : ∀ c, (rd c).BodyObligation (defs₀ (F := F)) Variants.none () Set.univ)
    (hshare : ∀ c w, (rd c).share w = fullShare) (howed : ∀ c t, (rd c).owed t = 0)
    (hA : ∀ c w, (rd c).A w = V m c (Pipeline.arrRef spec0 w))
    (hin : ∀ c, Pipeline.ΦA spec0 c ⊢ (rd c).Φ 0) (hout : ∀ c, (rd c).Φ (Fin.last cfg0.N) ⊢ Pipeline.ΦA spec0 c) :
    θ_run defs (onTc (τ := τ) (main (F := F))) (s₀ m ρ) (fun r => RDat.FramePost cfg0 rd (V m) r ∧ r.2.sem = fun _ => 0) :=
  Pipeline.RDat.θ_run_frame_track cfgs (0 : Fin 1) launch0 defs₀ Variants.none rd m ρ main
    hbody hshare howed (V m) (hmain m Variants.none) hA hin hout _ (fun _ h => h)

/-- Every execution of @main ends with the arrays at contents the proof data allow, and all counters at zero. -/
theorem run_main_quiescent : θ_run defs (onTc (τ := τ) (main (F := F))) (s₀ m ρ) (fun r => RDat.FramePost cfg0 (rdat m) (V m) r ∧ r.2.sem = fun _ => 0) :=
  launch m ρ (rdat m) (body_obligation m) (fun c => (dats m 0 c).share_full fun _ => rfl) (fun _ _ => rfl) (rA_eq m) (hin m) (hout m)

end Cert.Kernel.Body

end
-- ==== Proof.Printed.Frame.lean ====
/-
The frame of the kernel as printed: every execution ends, the arguments unchanged.
-/
module

public import proofs.«01_k».proof.Proof.Printed.Launch
public import Idealize.ShloMosaic.Lib.Pipeline.Value
public import Idealize.ShloMosaic.Lib.Claim

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

variable (m : (ℓ : Loc nD τ sig) → Buf (Elt F) ℓ) (ρ : Dev nD → PrngReg)

/-- For a window other than the scale window the array ends as the exact proof data say. -/
theorem arrAt_iff (c : Dev nD) (w : Fin cfg0.W) (h : scaleRel m c w = none) (G) : (rdat m c).ArrAt w cfg0.N G ↔ G = (dats m 0 c).arrAt w cfg0.N :=
  ((dats m 0 c).toR.override_arrAt h cfg0.N G).trans ((dats m 0 c).toR_arrAt_iff w cfg0.N G)

/-- The frame: every execution ends, the arguments unchanged and every semaphore counter at zero. -/
theorem frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.sem = fun _ => 0) :=
  (θ_run defs _ _).mono (fun r h => ⟨fun c => ⟨
      ((h.1 c).2 main_arg0 (Pipeline.mem_restRefs_of main_arg0 (by decide) (by decide))).trans (V_main_arg0 m c),
      ((arrAt_iff m c 1 rfl _).mp ((h.1 c).1 1)).trans (((dats m 0 c).arrAt_in 1 rfl _).trans ((A_eq m c 1).trans (V_main_arg1 m c))),
      ((arrAt_iff m c 2 rfl _).mp ((h.1 c).1 2)).trans (((dats m 0 c).arrAt_in 2 rfl _).trans ((A_eq m c 2).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)
    (run_main_quiescent m ρ)

end Cert.Kernel.Body

end
-- ==== Proof.Value.Exponent.lean ====
/-
The exponent of a number read two ways: off a table of the powers of two, as the kernel does, and through the logarithm, as the reference does.
-/
module

public import Idealize.ShloMosaic.PureOps.Ideal
public import Idealize.ShloMosaic.Lib.Pointwise

@[expose] public section

set_option maxRecDepth 16384

noncomputable section

namespace Cert.Exponent

open Idealize.ShloMosaic

/-- The word of binary32 whose exponent field is `k` and whose other bits are zero. -/
abbrev word (k : ℕ) : BitVec 32 := BitVec.ofNat 32 (k * 8388608)

theorem word_neg : ∀ k : Fin 256, ((word k).extractLsb' (8 + 23) 1 == 1#1) = false := by decide +kernel
theorem word_exp : ∀ k : Fin 256, ((word k).extractLsb' 23 8).toNat = k.val := by decide +kernel
theorem word_frac : ∀ k : Fin 256, ((word k).extractLsb' 0 23).toNat = 0 := by decide +kernel
theorem shli_eq : ∀ k : Fin 256, IntOp.shli ArithUnit.vector (BitVec.ofNat 32 k.val) 23#32 = word k := by decide +kernel

/-- Such a word, with an exponent field of 1 to 254, is a power of two. -/
theorem ofBits_word (k : ℕ) (h1 : 1 ≤ k) (h2 : k ≤ 254) : Ideal.ofBits .f32 (word k) = (((2 : ℝ) ^ ((k : ℤ) - 127) : ℝ) : EReal) := by
  have hn := word_neg ⟨k, by omega⟩
  have he := word_exp ⟨k, by omega⟩
  have hf := word_frac ⟨k, by omega⟩
  simp only at hn he hf
  show Ideal.ieee 8 23 (word k) = _
  unfold Ideal.ieee
  simp only [hn, he, hf]
  rw [if_neg (by omega), if_neg (by omega)]
  congr 1
  rw [show (k : ℤ) - (2 ^ (8 - 1) - 1) - (23 : ℕ) = ((k : ℤ) - 127) - 23 by norm_num]
  rw [zpow_sub₀ (by norm_num : (2 : ℝ) ≠ 0)]
  norm_num
  ring

/-- The word of exponent field 0 is zero. -/
theorem ofBits_word_zero : Ideal.ofBits .f32 (word 0) = 0 := Ideal.ofBits_zero_f32

/-- The word of exponent field 255 is plus infinity. -/
theorem ofBits_word_top : Ideal.ofBits .f32 (word 255) = ⊤ := by
  show Ideal.ieee 8 23 (word 255) = _
  unfold Ideal.ieee
  have hn := word_neg 255
  have he := word_exp 255
  have hf := word_frac 255
  simp only [show ((255 : Fin 256) : ℕ) = 255 from rfl] at hn he hf
  simp only [hn, he, hf]
  norm_num

/-- The exponent word read off the table: the largest word of the table whose value is at most `v`. -/
def ebits (v : EReal) : BitVec 32 :=
  Finset.fold IntOp.maxsi (2147483648#32) (fun x : Fin 256 => if Ideal.ofBits .f32 (IntOp.shli ArithUnit.vector (BitVec.ofNat 32 x.val) 23#32) ≤ v then IntOp.shli ArithUnit.vector (BitVec.ofNat 32 x.val) 23#32 else 0#32) Finset.univ

/-- The largest of the words of a table's first part. -/
theorem fold_word : ∀ N : Fin 256, Finset.fold IntOp.maxsi (2147483648#32) (fun x : Fin 256 => if x ≤ N then word x else 0#32) Finset.univ = word N := by
  decide +kernel

/-- A real between `2 ^ e` and `2 ^ (e + 1)` has the exponent field `e + 127`. -/
theorem ebits_eq (v : ℝ) (e : ℤ) (h1 : -127 ≤ e) (h2 : e ≤ 119) (hl : (2 : ℝ) ^ e ≤ v) (hu : v < (2 : ℝ) ^ (e + 1)) :
    ebits (v : EReal) = word (e + 127).toNat := by
  have hv : 0 ≤ v := le_trans (by positivity) hl
  set N : Fin 256 := ⟨(e + 127).toNat, by omega⟩ with hN
  rw [show (e + 127).toNat = N.val from rfl, ← fold_word N]
  unfold ebits
  apply Finset.fold_congr
  intro x _
  rw [shli_eq x]
  have hiff : Ideal.ofBits .f32 (word x) ≤ (v : EReal) ↔ x ≤ N := by
    rcases Nat.eq_zero_or_pos x.val with hx | hx
    · rw [hx, ofBits_word_zero]
      refine ⟨fun _ => ?_, fun _ => by exact_mod_cast hv⟩
      show x.val ≤ N.val; omega
    · by_cases hx' : x.val ≤ 254
      · rw [ofBits_word x.val hx hx', EReal.coe_le_coe_iff]
        constructor
        · intro h
          have := (zpow_lt_zpow_iff_right₀ (by norm_num : (1 : ℝ) < 2)).mp (lt_of_le_of_lt h hu)
          show x.val ≤ N.val; simp only [hN]; omega
        · intro h
          have h' : x.val ≤ N.val := h
          refine le_trans (zpow_le_zpow_right₀ (by norm_num) ?_) hl
          simp only [hN] at h'; omega
      · have : x.val = 255 := by have := x.isLt; omega
        rw [this, ofBits_word_top]
        constructor
        · intro h; exact absurd (top_le_iff.mp h) (EReal.coe_ne_top v)
        · intro h
          have h' : x.val ≤ N.val := h
          simp only [hN] at h'; omega
  by_cases h : x ≤ N
  · rw [if_pos (hiff.mpr h), if_pos h]
  · rw [if_neg (fun h' => h (hiff.mp h')), if_neg h]

theorem add_word : ∀ k : Fin 255, IntOp.addi (word k) 8388608#32 = word (k.val + 1) := by decide +kernel
theorem sub_word : ∀ k : Fin 254, IntOp.subi (2122317824#32) (word k) = word (253 - k.val) := by decide +kernel

/-- The kernel's factor `1/448`, as binary32 holds it. -/
abbrev c448 : EReal := Ideal.ofBits .f32 991054117#32
theorem c448_eq : c448 = ((9586981 * (2 : ℝ) ^ (-32 : ℤ) : ℝ) : EReal) := by
  simp [c448, Ideal.ofBits, Ideal.ieee, -EReal.coe_mul]
theorem lo_eq : Ideal.ofBits .f32 0x04800000#32 = (((2 : ℝ) ^ (-118 : ℤ) : ℝ) : EReal) := by
  simp [Ideal.ofBits, Ideal.ieee, -EReal.coe_mul]; norm_num
theorem hi_eq : Ideal.ofBits .f32 0x7F7F0000#32 = ((16711680 * (2 : ℝ) ^ (104 : ℤ) : ℝ) : EReal) := by
  simp [Ideal.ofBits, Ideal.ieee, -EReal.coe_mul]

/-- What is asked of the largest magnitude of a group: zero, or in the range of the exponent arithmetic. -/
def InRange (a : EReal) : Prop := a = 0 ∨ (Ideal.ofBits .f32 0x04800000#32 ≤ a ∧ a ≤ Ideal.ofBits .f32 0x7F7F0000#32)

/-- The exponent by the logarithm. -/
abbrev lexp (v : EReal) : EReal := Ideal.liftRound Int.floor (Ideal.div (Ideal.log v) ((Real.log 2 : ℝ) : EReal)) + 1

/-- In range, there is an exponent `e` whose word the table gives and whose value the logarithm gives. -/
theorem exists_exp (a : EReal) (h : Ideal.ofBits .f32 0x04800000#32 ≤ a) (h' : a ≤ Ideal.ofBits .f32 0x7F7F0000#32) :
    ∃ e : ℤ, -127 ≤ e ∧ e ≤ 119 ∧ ebits (a * c448) = word (e + 127).toNat ∧ lexp (a * c448) = (((e + 1 : ℤ) : ℝ) : EReal) := by
  rw [lo_eq] at h; rw [hi_eq] at h'
  induction a using EReal.rec with
  | bot => exact absurd (le_bot_iff.mp h) (EReal.coe_ne_bot _)
  | top => exact absurd (top_le_iff.mp h') (EReal.coe_ne_top _)
  | coe a =>
    rw [EReal.coe_le_coe_iff] at h h'
    set v : ℝ := a * (9586981 * (2 : ℝ) ^ (-32 : ℤ)) with hv
    have hvE : (a : EReal) * c448 = (v : EReal) := by rw [c448_eq, ← EReal.coe_mul]
    have hlo : (2 : ℝ) ^ (-127 : ℤ) ≤ v := by
      rw [hv]
      calc (2 : ℝ) ^ (-127 : ℤ) ≤ (2 : ℝ) ^ (-118 : ℤ) * (9586981 * (2 : ℝ) ^ (-32 : ℤ)) := by norm_num
        _ ≤ _ := mul_le_mul_of_nonneg_right h (by positivity)
    have hhi : v < (2 : ℝ) ^ (120 : ℤ) := by
      rw [hv]
      calc _ ≤ 16711680 * (2 : ℝ) ^ (104 : ℤ) * (9586981 * (2 : ℝ) ^ (-32 : ℤ)) := mul_le_mul_of_nonneg_right h' (by positivity)
        _ < _ := by norm_num
    have hpos : 0 < v := lt_of_lt_of_le (by positivity) hlo
    obtain ⟨e, hl, hu⟩ := exists_mem_Ico_zpow hpos (by norm_num : (1 : ℝ) < 2)
    have h1 : -127 ≤ e := by
      have := (zpow_lt_zpow_iff_right₀ (by norm_num : (1 : ℝ) < 2)).mp (lt_of_le_of_lt hlo hu); omega
    have h2 : e ≤ 119 := by
      have := (zpow_lt_zpow_iff_right₀ (by norm_num : (1 : ℝ) < 2)).mp (lt_of_le_of_lt hl hhi); omega
    refine ⟨e, h1, h2, ?_, ?_⟩
    · rw [hvE]; exact ebits_eq v e h1 h2 hl hu
    · rw [hvE]
      have hlog2 : (Real.log 2 : ℝ) ≠ 0 := (Real.log_pos (by norm_num)).ne'
      have hlog : Ideal.log (v : EReal) = (Real.log v : EReal) := by
        show (if v ≤ 0 then (⊥ : EReal) else (Real.log v : EReal)) = _
        rw [if_neg (not_le.mpr hpos)]
      have hdiv : Ideal.div ((Real.log v : ℝ) : EReal) ((Real.log 2 : ℝ) : EReal) = ((Real.log v / Real.log 2 : ℝ) : EReal) := by
        unfold Ideal.div
        rw [if_neg (by exact_mod_cast hlog2), ← EReal.coe_inv, ← EReal.coe_mul, div_eq_mul_inv]
      have hlp : 0 < Real.log 2 := Real.log_pos (by norm_num)
      have hfl : ⌊Real.log v / Real.log 2⌋ = e := by
        rw [Int.floor_eq_iff]
        constructor
        · rw [le_div_iff₀ hlp, ← Real.log_zpow]
          exact Real.log_le_log (by positivity) hl
        · rw [div_lt_iff₀ hlp]
          have := Real.log_lt_log hpos hu
          rw [Real.log_zpow] at this
          push_cast at this; exact this
      show Ideal.liftRound Int.floor (Ideal.div (Ideal.log (v : EReal)) ((Real.log 2 : ℝ) : EReal)) + 1 = _
      rw [hlog, hdiv]
      show (((⌊Real.log v / Real.log 2⌋ : ℤ) : ℝ) : EReal) + 1 = _
      rw [hfl]; push_cast; rfl

theorem exp2_int (e : ℤ) : Ideal.exp2 (((e : ℤ) : ℝ) : EReal) = (((2 : ℝ) ^ e : ℝ) : EReal) := by
  show ((Real.rpow 2 (e : ℝ) : ℝ) : EReal) = _
  rw [show Real.rpow 2 (e : ℝ) = (2 : ℝ) ^ (e : ℝ) from rfl, Real.rpow_intCast]

/-- The scale of a group, read off the table, is two to the exponent by the logarithm. -/
theorem scale_eq (a : EReal) (h : InRange a) :
    (if a = 0 then (1 : EReal) else Ideal.ofBits .f32 (IntOp.addi (ebits (a * c448)) 8388608#32)) = Ideal.exp2 (if a = 0 then 0 else lexp (a * c448)) := by
  by_cases ha : a = 0
  · rw [if_pos ha, if_pos ha]
    have := exp2_int 0
    simpa using this.symm
  · rw [if_neg ha, if_neg ha]
    obtain ⟨e, h1, h2, hb, hl⟩ := exists_exp a (h.resolve_left ha).1 (h.resolve_left ha).2
    rw [hb, hl, add_word ⟨(e + 127).toNat, by omega⟩, exp2_int, ofBits_word _ (by simp) (by simp; omega)]
    congr 2
    simp only; omega

/-- The inverse scale of a group, read off the table, is two to the negated exponent by the logarithm. -/
theorem inv_eq (a : EReal) (h : InRange a) :
    (if a = 0 then (1 : EReal) else Ideal.ofBits .f32 (IntOp.subi (2122317824#32) (ebits (a * c448)))) = Ideal.exp2 (0 - (if a = 0 then 0 else lexp (a * c448))) := by
  by_cases ha : a = 0
  · rw [if_pos ha, if_pos ha]
    have := exp2_int 0
    simpa using this.symm
  · rw [if_neg ha, if_neg ha]
    obtain ⟨e, h1, h2, hb, hl⟩ := exists_exp a (h.resolve_left ha).1 (h.resolve_left ha).2
    have h0 : (0 : EReal) - (((e + 1 : ℤ) : ℝ) : EReal) = (((-(e + 1) : ℤ) : ℝ) : EReal) := by
      rw [zero_sub, ← EReal.coe_neg]; push_cast; rfl
    rw [hb, hl, sub_word ⟨(e + 127).toNat, by omega⟩, h0, exp2_int, ofBits_word _ (by simp only; omega) (by simp only; omega)]
    congr 2
    simp only; omega

end Cert.Exponent

end

end
-- ==== Proof.Value.Quant.lean ====
/-
The quantiser of one group of 128 numbers, as a function of the numbers alone.
-/
module

public import proofs.«01_k».proof.Proof.Value.Exponent

@[expose] public section

set_option maxRecDepth 16384

noncomputable section

namespace Cert.Quant

open Idealize.ShloMosaic.Tactic
open Idealize.ShloMosaic Idealize.ShloMosaic.TcCoe Idealize.ShloMosaic.Tactic
open Cert.Exponent
open scoped BigOperators

/-- The largest magnitude of a group. -/
def amax (x : Fin 128 → EReal) : EReal :=
  Finset.fold max (Ideal.ofBits .f32 4286578688#32) (fun k : Fin 128 => FloatOps.absf (F := Ideal) (φ := .f32) (x k)) Finset.univ

/-- The group's exponent: the least whose power of two, times 448, exceeds the largest magnitude; 0 for a group of zeros. -/
def gexp (x : Fin 128 → EReal) : EReal := if amax x = 0 then 0 else lexp (amax x * c448)

/-- The group's scale. -/
def gscale (x : Fin 128 → EReal) : EReal := Ideal.exp2 (gexp x)

/-- The group's codes. -/
def gcode (x : Fin 128 → EReal) (k : Fin 128) : EReal :=
  min (Ideal.ofBits .f32 1138753536#32) (max (Ideal.ofBits .f32 3286237184#32) (x k * Ideal.exp2 (0 - gexp x)))

/-- Group `g` of row `r`. -/
def grp (X : Fin 256 → Fin 16384 → EReal) (r : Fin 256) (g : Fin 128) (k : Fin 128) : EReal := X r ⟨g.val * 128 + k.val, by omega⟩

/-- The activations multiplied out again: each code times its group's scale. -/
def xdq (X : Fin 256 → Fin 16384 → EReal) (i : Fin 256) (K : Fin 16384) : EReal :=
  gcode (grp X i ⟨K.val / 128, by omega⟩) ⟨K.val % 128, by omega⟩ * gscale (grp X i ⟨K.val / 128, by omega⟩)

/-- The weights multiplied out: each times the scale of its 128 by 128 tile. -/
def wdq (W : Fin 2880 → Fin 16384 → EReal) (S : Fin 23 → Fin 128 → EReal) (ρ : Fin 2880) (K : Fin 16384) : EReal :=
  W ρ K * S ⟨ρ.val / 128, by omega⟩ ⟨K.val / 128, by omega⟩

/-- The product of the two: row `ρ` of the weights with row `i` of the activations. -/
def prod (W : Fin 2880 → Fin 16384 → EReal) (S : Fin 23 → Fin 128 → EReal) (X : Fin 256 → Fin 16384 → EReal) (ρ : Fin 2880) (i : Fin 256) : EReal :=
  ∑ K : Fin 16384, wdq W S ρ K * xdq X i K

/-- Its part from columns `1024 t` to `1024 t + 1023`. -/
def chunk (W : Fin 2880 → Fin 16384 → EReal) (S : Fin 23 → Fin 128 → EReal) (X : Fin 256 → Fin 16384 → EReal) (t : Fin 16) (ρ : Fin 2880) (i : Fin 256) : EReal :=
  ∑ k : Fin 1024, wdq W S ρ ⟨1024 * t.val + k.val, by omega⟩ * xdq X i ⟨1024 * t.val + k.val, by omega⟩

/-- The product is the sum of its sixteen parts. -/
theorem prod_eq (W : Fin 2880 → Fin 16384 → EReal) (S : Fin 23 → Fin 128 → EReal) (X : Fin 256 → Fin 16384 → EReal) (ρ : Fin 2880) (i : Fin 256) :
    ∑ t : Fin 16, chunk W S X t ρ i = prod W S X ρ i := by
  unfold chunk prod
  rw [← Fintype.sum_prod_type' (f := fun (t : Fin 16) (k : Fin 1024) => wdq W S ρ ⟨1024 * t.val + k.val, by omega⟩ * xdq X i ⟨1024 * t.val + k.val, by omega⟩)]
  refine Fintype.sum_equiv (finProdFinEquiv (m := 16) (n := 1024)) _ (fun K : Fin 16384 => wdq W S ρ K * xdq X i K) (fun p => ?_)
  have h : finProdFinEquiv p = (⟨1024 * p.1.val + p.2.val, by omega⟩ : Fin 16384) := Fin.ext (by show p.2.val + 1024 * p.1.val = 1024 * p.1.val + p.2.val; omega)
  show _ = wdq W S ρ (finProdFinEquiv p) * xdq X i (finProdFinEquiv p)
  rw [h]

end Cert.Quant

end

end
-- ==== Proof.Body.Conds.lean ====
/-
The two conditions of the kernel body (first grid point, last grid point), which windows are idle where, and the
names of the staging buffers the body is handed at a point.
-/
module

public import proofs.«01_k».proof.Proof.Gen.KernelIdeal.Frame
public import proofs.«01_k».proof.Proof.Gen.KernelIdeal.Skeleton

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2880x1024 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S23x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x768 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x768 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x64 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1024 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x128 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S2880x256 .f32 := Memref.whole cc0_scratch0
/-- The scratch `arg11` the kernel carries between points, as a view: what it holds is stated through it. -/
abbrev VS0_0 : View sig .tc .vmem S2880x256 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Body

end
-- ==== Proof.Body.RunFirst.lean ====
/-
The body at the first grid point: the accumulator is zeroed, whatever it held, and then added to.
-/
module

public import proofs.«01_k».proof.Proof.Body.Conds

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 6000000 in
/-- The body at the first grid point: the accumulator is zeroed, whatever it held, and then added to. The result is the list of pieces (last first) each buffer is left with, and the proof that the body runs to a continuation that holds the buffers so written. What the scale window held before the body is `xo9`; only the pieces of that window depend on it. -/
noncomputable def runFirst (c : Dev nD) (i : grid0.Coords) (arg1 : Memref sig .tc .vmem S256x1024 .bf16) (harg1 : arg1.IsWhole) (arg2 : Memref sig .tc .vmem S2880x1024 .fp8e4m3) (harg2 : arg2.IsWhole) (arg3 : Memref sig .tc .smem S23x128 .f32) (harg3 : arg3.IsWhole) (arg4 : Memref sig .tc .vmem S1x2048 .f32) (harg4 : arg4.IsWhole) (arg5 : Memref sig .tc .vmem S1x768 .f32) (harg5 : arg5.IsWhole) (arg6 : Memref sig .tc .vmem S256x2048 .bf16) (harg6 : arg6.IsWhole) (arg7 : Memref sig .tc .vmem S256x768 .bf16) (harg7 : arg7.IsWhole) (arg8 : Memref sig .tc .vmem S256x64 .bf16) (harg8 : arg8.IsWhole) (arg9 : Memref sig .tc .vmem S256x1024 .fp8e4m3) (harg9 : arg9.IsWhole) (arg10 : Memref sig .tc .vmem S256x128 .f32) (harg10 : arg10.IsWhole) (arg11 : Memref sig .tc .vmem S2880x256 .f32) (harg11 : arg11.IsWhole) (hc0 : cond0_0 i) (hc1 : ¬cond0_1 i)
    (x0 : Vec F S256x1024 .bf16) (x1 : Vec F S2880x1024 .fp8e4m3) (x2 : Vec F S23x128 .f32) (x3 : Vec F S1x2048 .f32) (x4 : Vec F S1x768 .f32) :
    Σ' (L5 : List (View.Piece (Elt F) S256x2048 .bf16)), Σ' (L6 : List (View.Piece (Elt F) S256x768 .bf16)), Σ' (L7 : List (View.Piece (Elt F) S256x64 .bf16)), Σ' (L8 : List (View.Piece (Elt F) S256x1024 .fp8e4m3)), Σ' (L9 : Vec F S256x128 .f32 → List (View.Piece (Elt F) S256x128 .f32)), { LS0 : List (View.Piece (Elt F) S2880x256 .f32) //
      ∀ (xo9 : Vec F S256x128 .f32) (xi5 : Vec F S256x2048 .bf16) (xi6 : Vec F S256x768 .bf16) (xi7 : Vec F S256x64 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ owns (c : Thread nD τ) arg8 fullShare xi7 ∗ (∃ d, owns (c : Thread nD τ) arg9 fullShare d) ∗ owns (c : Thread nD τ) arg10 fullShare xo9 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ owns (c : Thread nD τ) arg8 fullShare xi7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f (L9 xo9)) ∗ (∃ f, arg11.view.loc (c : Thread nD τ) ↦[arg11.view.set]{fullShare} arg11.view.writes (Elt F) f LS0)) -∗ K ⟨⟩))
          ⊢ wp frame (wpE (defs₀ (F := F)) Variants.none c none) E (cc0_mla_a_proj i arg1 harg1 arg2 harg2 arg3 harg3 arg4 harg4 arg5 harg5 arg6 harg6 arg7 harg7 arg8 harg8 arg9 harg9 arg10 harg10 arg11 harg11) K } := by
  refine ⟨[], [], [], ?_, ?_, ?_, fun xo9 xi5 xi6 xi7 E K => ?run⟩
  case run =>
    simp only [cc0_mla_a_proj_eq_skeleton]; unfold cc0_mla_a_proj_skel
    simp only [k0_part64_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _; iexact HS0

end Cert.KernelIdeal.Body

end
-- ==== Proof.Body.RunMid.lean ====
/-
The body at a grid point that is neither the first nor the last: the accumulator, at `xs0` before, is added to.
-/
module

public import proofs.«01_k».proof.Proof.Body.RunFirst

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 6000000 in
/-- The body at a grid point that is neither the first nor the last: the accumulator, at `xs0` before, is added to. The result is the list of pieces (last first) each buffer is left with, and the proof that the body runs to a continuation that holds the buffers so written. What the scale window held before the body is `xo9`; only the pieces of that window depend on it. -/
noncomputable def runMid (c : Dev nD) (i : grid0.Coords) (arg1 : Memref sig .tc .vmem S256x1024 .bf16) (harg1 : arg1.IsWhole) (arg2 : Memref sig .tc .vmem S2880x1024 .fp8e4m3) (harg2 : arg2.IsWhole) (arg3 : Memref sig .tc .smem S23x128 .f32) (harg3 : arg3.IsWhole) (arg4 : Memref sig .tc .vmem S1x2048 .f32) (harg4 : arg4.IsWhole) (arg5 : Memref sig .tc .vmem S1x768 .f32) (harg5 : arg5.IsWhole) (arg6 : Memref sig .tc .vmem S256x2048 .bf16) (harg6 : arg6.IsWhole) (arg7 : Memref sig .tc .vmem S256x768 .bf16) (harg7 : arg7.IsWhole) (arg8 : Memref sig .tc .vmem S256x64 .bf16) (harg8 : arg8.IsWhole) (arg9 : Memref sig .tc .vmem S256x1024 .fp8e4m3) (harg9 : arg9.IsWhole) (arg10 : Memref sig .tc .vmem S256x128 .f32) (harg10 : arg10.IsWhole) (arg11 : Memref sig .tc .vmem S2880x256 .f32) (harg11 : arg11.IsWhole) (hc0 : ¬cond0_0 i) (hc1 : ¬cond0_1 i)
    (x0 : Vec F S256x1024 .bf16) (x1 : Vec F S2880x1024 .fp8e4m3) (x2 : Vec F S23x128 .f32) (x3 : Vec F S1x2048 .f32) (x4 : Vec F S1x768 .f32) (xs0 : Vec F S2880x256 .f32) :
    Σ' (L5 : List (View.Piece (Elt F) S256x2048 .bf16)), Σ' (L6 : List (View.Piece (Elt F) S256x768 .bf16)), Σ' (L7 : List (View.Piece (Elt F) S256x64 .bf16)), Σ' (L8 : List (View.Piece (Elt F) S256x1024 .fp8e4m3)), Σ' (L9 : Vec F S256x128 .f32 → List (View.Piece (Elt F) S256x128 .f32)), { LS0 : List (View.Piece (Elt F) S2880x256 .f32) //
      ∀ (xo9 : Vec F S256x128 .f32) (xi5 : Vec F S256x2048 .bf16) (xi6 : Vec F S256x768 .bf16) (xi7 : Vec F S256x64 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ owns (c : Thread nD τ) arg8 fullShare xi7 ∗ (∃ d, owns (c : Thread nD τ) arg9 fullShare d) ∗ owns (c : Thread nD τ) arg10 fullShare xo9 ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ owns (c : Thread nD τ) arg8 fullShare xi7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f (L9 xo9)) ∗ (∃ f, arg11.view.loc (c : Thread nD τ) ↦[arg11.view.set]{fullShare} arg11.view.writes (Elt F) f LS0)) -∗ K ⟨⟩))
          ⊢ wp frame (wpE (defs₀ (F := F)) Variants.none c none) E (cc0_mla_a_proj i arg1 harg1 arg2 harg2 arg3 harg3 arg4 harg4 arg5 harg5 arg6 harg6 arg7 harg7 arg8 harg8 arg9 harg9 arg10 harg10 arg11 harg11) K } := by
  refine ⟨[], [], [], ?_, ?_, ?_, fun xo9 xi5 xi6 xi7 E K => ?run⟩
  case run =>
    simp only [cc0_mla_a_proj_eq_skeleton]; unfold cc0_mla_a_proj_skel
    simp only [k0_part64_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _; iexact HS0

end Cert.KernelIdeal.Body

end
-- ==== Proof.Body.RunLast.lean ====
/-
The body at the last grid point: the accumulator, at `xs0` before, is added to, and the three normalised results are stored.
-/
module

public import proofs.«01_k».proof.Proof.Body.RunMid

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 6000000 in
/-- The body at the last grid point: the accumulator, at `xs0` before, is added to, and the three normalised results are stored. The result is the list of pieces (last first) each buffer is left with, and the proof that the body runs to a continuation that holds the buffers so written. What the scale window held before the body is `xo9`; only the pieces of that window depend on it. -/
noncomputable def runLast (c : Dev nD) (i : grid0.Coords) (arg1 : Memref sig .tc .vmem S256x1024 .bf16) (harg1 : arg1.IsWhole) (arg2 : Memref sig .tc .vmem S2880x1024 .fp8e4m3) (harg2 : arg2.IsWhole) (arg3 : Memref sig .tc .smem S23x128 .f32) (harg3 : arg3.IsWhole) (arg4 : Memref sig .tc .vmem S1x2048 .f32) (harg4 : arg4.IsWhole) (arg5 : Memref sig .tc .vmem S1x768 .f32) (harg5 : arg5.IsWhole) (arg6 : Memref sig .tc .vmem S256x2048 .bf16) (harg6 : arg6.IsWhole) (arg7 : Memref sig .tc .vmem S256x768 .bf16) (harg7 : arg7.IsWhole) (arg8 : Memref sig .tc .vmem S256x64 .bf16) (harg8 : arg8.IsWhole) (arg9 : Memref sig .tc .vmem S256x1024 .fp8e4m3) (harg9 : arg9.IsWhole) (arg10 : Memref sig .tc .vmem S256x128 .f32) (harg10 : arg10.IsWhole) (arg11 : Memref sig .tc .vmem S2880x256 .f32) (harg11 : arg11.IsWhole) (hc0 : ¬cond0_0 i) (hc1 : cond0_1 i)
    (x0 : Vec F S256x1024 .bf16) (x1 : Vec F S2880x1024 .fp8e4m3) (x2 : Vec F S23x128 .f32) (x3 : Vec F S1x2048 .f32) (x4 : Vec F S1x768 .f32) (xs0 : Vec F S2880x256 .f32) :
    Σ' (L5 : List (View.Piece (Elt F) S256x2048 .bf16)), Σ' (L6 : List (View.Piece (Elt F) S256x768 .bf16)), Σ' (L7 : List (View.Piece (Elt F) S256x64 .bf16)), Σ' (L8 : List (View.Piece (Elt F) S256x1024 .fp8e4m3)), Σ' (L9 : Vec F S256x128 .f32 → List (View.Piece (Elt F) S256x128 .f32)), { LS0 : List (View.Piece (Elt F) S2880x256 .f32) //
      ∀ (xo9 : Vec F S256x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xo9 ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f (L9 xo9)) ∗ (∃ f, arg11.view.loc (c : Thread nD τ) ↦[arg11.view.set]{fullShare} arg11.view.writes (Elt F) f LS0)) -∗ K ⟨⟩))
          ⊢ wp frame (wpE (defs₀ (F := F)) Variants.none c none) E (cc0_mla_a_proj i arg1 harg1 arg2 harg2 arg3 harg3 arg4 harg4 arg5 harg5 arg6 harg6 arg7 harg7 arg8 harg8 arg9 harg9 arg10 harg10 arg11 harg11) K } := by
  refine ⟨?_, ?_, ?_, ?_, ?_, ?_, fun xo9 E K => ?run⟩
  case run =>
    simp only [cc0_mla_a_proj_eq_skeleton]; unfold cc0_mla_a_proj_skel
    simp only [k0_part64_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%f9, %hf9, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg10.eq_unread hf9; obtain rfl := harg11.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    iexists _; iexact HS0

end Cert.KernelIdeal.Body

end
-- ==== Proof.Body.Points.lean ====
/-
The body at each of the sixteen grid points, and that what it stores covers the buffers it stores to.
-/
module

public import proofs.«01_k».proof.Proof.Body.RunLast

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Output window 5's staging buffer as a view, through which the contents are stated. -/
abbrev VO0_5 : View sig .tc .vmem S256x2048 .bf16 := (Memref.whole cc0_stg5_0 : Memref sig .tc .vmem S256x2048 .bf16).view
/-- Output window 6's staging buffer as a view, through which the contents are stated. -/
abbrev VO0_6 : View sig .tc .vmem S256x768 .bf16 := (Memref.whole cc0_stg6_0 : Memref sig .tc .vmem S256x768 .bf16).view
/-- Output window 7's staging buffer as a view, through which the contents are stated. -/
abbrev VO0_7 : View sig .tc .vmem S256x64 .bf16 := (Memref.whole cc0_stg7_0 : Memref sig .tc .vmem S256x64 .bf16).view
/-- Output window 8's staging buffer as a view, through which the contents are stated. -/
abbrev VO0_8 : View sig .tc .vmem S256x1024 .fp8e4m3 := (Memref.whole cc0_stg8_0 : Memref sig .tc .vmem S256x1024 .fp8e4m3).view
/-- Output window 9's staging buffer as a view, through which the contents are stated. -/
abbrev VO0_9 : View sig .tc .vmem S256x128 .f32 := (Memref.whole cc0_stg9_0 : Memref sig .tc .vmem S256x128 .f32).view
/-- Window 5 is idle at every point but the last, is not written back there, and is live at the last. -/
theorem idle0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem live0_5 : ∀ t : Fin cfg0.N, cond0_1 (grid0.coords t) → cfg0.idle 5 (grid0.coords t) = false := by decide +kernel
/-- Window 6 is idle at every point but the last, is not written back there, and is live at the last. -/
theorem idle0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem live0_6 : ∀ t : Fin cfg0.N, cond0_1 (grid0.coords t) → cfg0.idle 6 (grid0.coords t) = false := by decide +kernel
/-- Window 7 is idle at every point but the last, is not written back there, and is live at the last. -/
theorem idle0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem live0_7 : ∀ t : Fin cfg0.N, cond0_1 (grid0.coords t) → cfg0.idle 7 (grid0.coords t) = false := by decide +kernel
/-- Window 8 is live everywhere. -/
theorem live0_8 : ∀ t : Fin cfg0.N, cfg0.idle 8 (grid0.coords t) = false := by decide +kernel

/-- The body's run at the first grid point `t`, on that point's staging buffers and the blocks the point is given. -/
abbrev firstAt (c : Dev nD) (t : Fin cfg0.N) (h0 : t.val % 16 = 0) (h1 : ¬t.val % 16 = 15) :=
  runFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t)

/-- The pieces stored in window 8 there cover its block. -/
theorem firstCover8 (c : Dev nD) (t : Fin cfg0.N) (h0 : t.val % 16 = 0) (h1 : ¬t.val % 16 = 15) (y : S256x1024.Idx) :
    ∃ pc ∈ (firstAt m c t h0 h1).2.2.2.1, y ∈ pc.1.set :=
  View.cover_of_tiledL ((firstAt m c t h0 h1).2.2.2.1) S256x128.size (by sl_kernel_rfl) y

/-- The pieces stored in window 9 there cover its block. -/
theorem firstCover9 (c : Dev nD) (t : Fin cfg0.N) (h0 : t.val % 16 = 0) (h1 : ¬t.val % 16 = 15) (xo : Vec F S256x128 .f32) (y : S256x128.Idx) :
    ∃ pc ∈ (firstAt m c t h0 h1).2.2.2.2.1 xo, y ∈ pc.1.set :=
  View.cover_of_tiledL ((firstAt m c t h0 h1).2.2.2.2.1 xo) S256x128.size (by sl_kernel_rfl) y

/-- The pieces stored in the accumulator there cover it. -/
theorem firstCoverAcc (c : Dev nD) (t : Fin cfg0.N) (h0 : t.val % 16 = 0) (h1 : ¬t.val % 16 = 15) (y : S2880x256.Idx) :
    ∃ pc ∈ (firstAt m c t h0 h1).2.2.2.2.2.1, y ∈ pc.1.set :=
  View.cover_of_wholeMem ((firstAt m c t h0 h1).2.2.2.2.2.1) (by sl_whole_mem) y

/-- The body's run at a middle grid point `t`, on that point's staging buffers and the blocks the point is given. -/
abbrev midAt (c : Dev nD) (t : Fin cfg0.N) (h0 : ¬t.val % 16 = 0) (h1 : ¬t.val % 16 = 15) (acc : Vec F S2880x256 .f32) :=
  runMid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) acc

/-- The pieces stored in window 8 there cover its block. -/
theorem midCover8 (c : Dev nD) (t : Fin cfg0.N) (h0 : ¬t.val % 16 = 0) (h1 : ¬t.val % 16 = 15) (acc : Vec F S2880x256 .f32) (y : S256x1024.Idx) :
    ∃ pc ∈ (midAt m c t h0 h1 acc).2.2.2.1, y ∈ pc.1.set :=
  View.cover_of_tiledL ((midAt m c t h0 h1 acc).2.2.2.1) S256x128.size (by sl_kernel_rfl) y

/-- The pieces stored in window 9 there cover its block. -/
theorem midCover9 (c : Dev nD) (t : Fin cfg0.N) (h0 : ¬t.val % 16 = 0) (h1 : ¬t.val % 16 = 15) (acc : Vec F S2880x256 .f32) (xo : Vec F S256x128 .f32) (y : S256x128.Idx) :
    ∃ pc ∈ (midAt m c t h0 h1 acc).2.2.2.2.1 xo, y ∈ pc.1.set :=
  View.cover_of_tiledL ((midAt m c t h0 h1 acc).2.2.2.2.1 xo) S256x128.size (by sl_kernel_rfl) y

/-- The pieces stored in the accumulator there cover it. -/
theorem midCoverAcc (c : Dev nD) (t : Fin cfg0.N) (h0 : ¬t.val % 16 = 0) (h1 : ¬t.val % 16 = 15) (acc : Vec F S2880x256 .f32) (y : S2880x256.Idx) :
    ∃ pc ∈ (midAt m c t h0 h1 acc).2.2.2.2.2.1, y ∈ pc.1.set :=
  View.cover_of_tiledBy ((midAt m c t h0 h1 acc).2.2.2.2.2.1) ![64, 256] (by sl_kernel_rfl) y

/-- The body's run at the last grid point `t`, on that point's staging buffers and the blocks the point is given. -/
abbrev lastAt (c : Dev nD) (t : Fin cfg0.N) (h0 : ¬t.val % 16 = 0) (h1 : t.val % 16 = 15) (acc : Vec F S2880x256 .f32) :=
  runLast c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) acc

/-- The pieces stored in window 5 there cover its block. -/
theorem lastCover5 (c : Dev nD) (t : Fin cfg0.N) (h0 : ¬t.val % 16 = 0) (h1 : t.val % 16 = 15) (acc : Vec F S2880x256 .f32) (y : S256x2048.Idx) :
    ∃ pc ∈ (lastAt m c t h0 h1 acc).1, y ∈ pc.1.set :=
  View.cover_of_tiledL ((lastAt m c t h0 h1 acc).1) S256x128.size (by sl_kernel_rfl) y

/-- The pieces stored in window 6 there cover its block. -/
theorem lastCover6 (c : Dev nD) (t : Fin cfg0.N) (h0 : ¬t.val % 16 = 0) (h1 : t.val % 16 = 15) (acc : Vec F S2880x256 .f32) (y : S256x768.Idx) :
    ∃ pc ∈ (lastAt m c t h0 h1 acc).2.1, y ∈ pc.1.set :=
  View.cover_of_tiledL ((lastAt m c t h0 h1 acc).2.1) S256x128.size (by sl_kernel_rfl) y

/-- The pieces stored in window 7 there cover its block. -/
theorem lastCover7 (c : Dev nD) (t : Fin cfg0.N) (h0 : ¬t.val % 16 = 0) (h1 : t.val % 16 = 15) (acc : Vec F S2880x256 .f32) (y : S256x64.Idx) :
    ∃ pc ∈ (lastAt m c t h0 h1 acc).2.2.1, y ∈ pc.1.set :=
  View.cover_of_tiledL ((lastAt m c t h0 h1 acc).2.2.1) S256x64.size (by sl_kernel_rfl) y

/-- The pieces stored in window 8 there cover its block. -/
theorem lastCover8 (c : Dev nD) (t : Fin cfg0.N) (h0 : ¬t.val % 16 = 0) (h1 : t.val % 16 = 15) (acc : Vec F S2880x256 .f32) (y : S256x1024.Idx) :
    ∃ pc ∈ (lastAt m c t h0 h1 acc).2.2.2.1, y ∈ pc.1.set :=
  View.cover_of_tiledL ((lastAt m c t h0 h1 acc).2.2.2.1) S256x128.size (by sl_kernel_rfl) y

/-- The pieces stored in window 9 there cover its block. -/
theorem lastCover9 (c : Dev nD) (t : Fin cfg0.N) (h0 : ¬t.val % 16 = 0) (h1 : t.val % 16 = 15) (acc : Vec F S2880x256 .f32) (xo : Vec F S256x128 .f32) (y : S256x128.Idx) :
    ∃ pc ∈ (lastAt m c t h0 h1 acc).2.2.2.2.1 xo, y ∈ pc.1.set :=
  View.cover_of_tiledL ((lastAt m c t h0 h1 acc).2.2.2.2.1 xo) S256x128.size (by sl_kernel_rfl) y

/-- The pieces stored in the accumulator there cover it. -/
theorem lastCoverAcc (c : Dev nD) (t : Fin cfg0.N) (h0 : ¬t.val % 16 = 0) (h1 : t.val % 16 = 15) (acc : Vec F S2880x256 .f32) (y : S2880x256.Idx) :
    ∃ pc ∈ (lastAt m c t h0 h1 acc).2.2.2.2.2.1, y ∈ pc.1.set :=
  View.cover_of_tiledBy ((lastAt m c t h0 h1 acc).2.2.2.2.2.1) ![64, 256] (by sl_kernel_rfl) y

end Cert.KernelIdeal.Body

end
-- ==== Proof.Body.Step.lean ====
/-
What one grid point computes, as functions of what it loads: the eight groups of activations multiplied out, the scale
array with eight lanes replaced, and each block of rows of the accumulator.
-/
module

public import proofs.«01_k».proof.Proof.Body.Points

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

/-! ### One group of 128 columns of the activations -/

/-- What the group is multiplied out to: the codes times the scale, in bf16. -/
def deq (v : Vec F S256x128 .bf16) : FVec F S256x128 .bf16 :=
  mulf (extf .bf16 (k0_pay36 v) bitsLt_fp8e4m3_bf16)
    (broadcastTo S256x128 (truncf .bf16 (k0_pay35 v) bitsLt_bf16_f32) broadcasts_S256x1_S256x128)

/-- The eight groups of a chunk multiplied out, side by side. -/
def deqAll (xg : Fin 8 → Vec F S256x128 .bf16) : FVec F S256x1024 .bf16 :=
  concatenate S256x1024 1 [⟨S256x128, deq (xg 0)⟩, ⟨S256x128, deq (xg 1)⟩, ⟨S256x128, deq (xg 2)⟩, ⟨S256x128, deq (xg 3)⟩, ⟨S256x128, deq (xg 4)⟩, ⟨S256x128, deq (xg 5)⟩, ⟨S256x128, deq (xg 6)⟩, ⟨S256x128, deq (xg 7)⟩] concatenates_S256x128_S256x128_S256x128_S256x128_S256x128_S256x128_S256x128_S256x128_S256x1024_d1

/-- The scale array with one lane replaced: lane `8·step + g` takes the group's scale. -/
def putScale (i : grid0.Coords) (g : BitVec 32) (s : FVec F S256x1 .f32) (prev : FVec F S256x128 .f32) : FVec F S256x128 .f32 :=
  select (cmpi .eq (iota .tc S256x128 32 [1] iota_S256x128_d1_w32)
      (broadcast S256x128 (Scalar.addi (Scalar.muli (BitVec.ofNat 32 (i 0).val) 8#32) g)))
    (broadcastTo S256x128 (shapeCast S256x1 s shapeCasts_S256x1_S256x1) broadcasts_S256x1_S256x128) prev

/-- The scale array with the eight lanes of a chunk replaced. -/
def putScales (i : grid0.Coords) (xg : Fin 8 → Vec F S256x128 .bf16) (X : Vec F S256x128 .f32) : FVec F S256x128 .f32 :=
  putScale i 7#32 (k0_pay35 (xg 7)) <| putScale i 6#32 (k0_pay35 (xg 6)) <| putScale i 5#32 (k0_pay35 (xg 5)) <|
  putScale i 4#32 (k0_pay35 (xg 4)) <| putScale i 3#32 (k0_pay35 (xg 3)) <| putScale i 2#32 (k0_pay35 (xg 2)) <|
  putScale i 1#32 (k0_pay35 (xg 1)) <| putScale i 0#32 (k0_pay35 (xg 0)) <|
  shapeCast S256x128 X shapeCasts_S256x128_S256x128

/-! ### One block of rows of the product -/

/-- A 128 by 128 tile of the weights multiplied out by its scale. -/
def wdeq (w : Vec F S128x128 .fp8e4m3) (s : Elt F .f32) : FVec F S128x128 .bf16 :=
  mulf (extf .bf16 w bitsLt_fp8e4m3_bf16) (broadcast S128x128 (Scalar.truncf .bf16 bitsLt_bf16_f32 s))

/-- A 64 by 128 tile of the weights multiplied out by its scale. -/
def wdeq64 (w : Vec F S64x128 .fp8e4m3) (s : Elt F .f32) : FVec F S64x128 .bf16 :=
  mulf (extf .bf16 w bitsLt_fp8e4m3_bf16) (broadcast S64x128 (Scalar.truncf .bf16 bitsLt_bf16_f32 s))

/-- A block of 128 rows of the accumulator after a chunk: `old` plus the block of weights times the chunk. -/
def row128 (xd : FVec F S256x1024 .bf16) (w : Fin 8 → Vec F S128x128 .fp8e4m3) (s : Fin 8 → Elt F .f32) (old : Vec F S128x256 .f32) : FVec F S128x256 .f32 :=
  shapeCast S128x256 (addf old (matmul dot_S128x1024_S256x1024_S128x256_1_1_0_0_n_n none
    (concatenate S128x1024 1 [⟨S128x128, wdeq (w 0) (s 0)⟩, ⟨S128x128, wdeq (w 1) (s 1)⟩, ⟨S128x128, wdeq (w 2) (s 2)⟩, ⟨S128x128, wdeq (w 3) (s 3)⟩, ⟨S128x128, wdeq (w 4) (s 4)⟩, ⟨S128x128, wdeq (w 5) (s 5)⟩, ⟨S128x128, wdeq (w 6) (s 6)⟩, ⟨S128x128, wdeq (w 7) (s 7)⟩] concatenates_S128x128_S128x128_S128x128_S128x128_S128x128_S128x128_S128x128_S128x128_S128x1024_d1)
    xd (constant S128x256 .f32 0x00000000#32))) shapeCasts_S128x256_S128x256

/-- The last 64 rows of the accumulator after a chunk. -/
def row64 (xd : FVec F S256x1024 .bf16) (w : Fin 8 → Vec F S64x128 .fp8e4m3) (s : Fin 8 → Elt F .f32) (old : Vec F S64x256 .f32) : FVec F S64x256 .f32 :=
  shapeCast S64x256 (addf old (matmul dot_S64x1024_S256x1024_S64x256_1_1_0_0_n_n none
    (concatenate S64x1024 1 [⟨S64x128, wdeq64 (w 0) (s 0)⟩, ⟨S64x128, wdeq64 (w 1) (s 1)⟩, ⟨S64x128, wdeq64 (w 2) (s 2)⟩, ⟨S64x128, wdeq64 (w 3) (s 3)⟩, ⟨S64x128, wdeq64 (w 4) (s 4)⟩, ⟨S64x128, wdeq64 (w 5) (s 5)⟩, ⟨S64x128, wdeq64 (w 6) (s 6)⟩, ⟨S64x128, wdeq64 (w 7) (s 7)⟩] concatenates_S64x128_S64x128_S64x128_S64x128_S64x128_S64x128_S64x128_S64x128_S64x1024_d1)
    xd (constant S64x256 .f32 0x00000000#32))) shapeCasts_S64x256_S64x256

/-! ### What a grid point reads -/

/-- Group `g` of the chunk of activations lies in the chunk. -/
theorem inbX (g : Fin 8) : ∀ a, (![0, 128 * g.val] : Fin 2 → Nat) a + S256x128.size a ≤ S256x1024.size a := by
  revert g; decide
/-- Weight tile `(n, g)` of 128 rows lies in the chunk of weights. -/
theorem inbW (n : ℕ) (hn : n < 22) (g : Fin 8) : ∀ a, (![128 * n, 128 * g.val] : Fin 2 → Nat) a + S128x128.size a ≤ S2880x1024.size a := by
  intro a; fin_cases a
  · show 128 * n + 128 ≤ 2880; omega
  · show 128 * g.val + 128 ≤ 1024; omega
/-- Weight tile `g` of the last 64 rows lies in the chunk of weights. -/
theorem inbW64 (g : Fin 8) : ∀ a, (![2816, 128 * g.val] : Fin 2 → Nat) a + S64x128.size a ≤ S2880x1024.size a := by
  revert g; decide
/-- Row block `n` lies in the accumulator. -/
theorem inbA (n : ℕ) (hn : n < 22) : ∀ a, (![128 * n, 0] : Fin 2 → Nat) a + S128x256.size a ≤ S2880x256.size a := by
  intro a; fin_cases a
  · show 128 * n + 128 ≤ 2880; omega
  · show 0 + 256 ≤ 256; omega
/-- Where the weight scale of row block `n` and of group `g` of the chunk stands. -/
def wsOff (n : ℕ) (i : grid0.Coords) (g : BitVec 32) : Fin 2 → Nat :=
  ![n, (Scalar.indexCast (Scalar.addi (Scalar.muli (BitVec.ofNat 32 (i 0).val) 8#32) g)).toNat]
/-- It stands inside the array of scales. -/
theorem inbS (n : ℕ) (hn : n < 23) (i : grid0.Coords) (g : Fin 8) :
    ∀ a, wsOff n i (BitVec.ofNat 32 g.val) a + S1x1.size a ≤ S23x128.size a := by
  have h := k0_off1_inb i g
  intro a; fin_cases a
  · show n + 1 ≤ 23; omega
  · exact h 1

section reads
variable (arg1 : Memref sig .tc .vmem S256x1024 .bf16) (harg1 : arg1.IsWhole) (arg2 : Memref sig .tc .vmem S2880x1024 .fp8e4m3) (harg2 : arg2.IsWhole)
  (arg3 : Memref sig .tc .smem S23x128 .f32) (harg3 : arg3.IsWhole) (arg11 : Memref sig .tc .vmem S2880x256 .f32) (harg11 : arg11.IsWhole)
  (i : grid0.Coords) (x0 : Vec F S256x1024 .bf16) (x1 : Vec F S2880x1024 .fp8e4m3) (x2 : Vec F S23x128 .f32) (xs0 : Vec F S2880x256 .f32)

/-- Group `g` as loaded from the chunk of activations. -/
def rdX (g : Fin 8) : Vec F S256x128 .bf16 :=
  View.readAt (Elt F) arg1.view (Rect.unit (s := S256x1024) ![0, 128 * g.val] S256x128.size (inbX g)).toLoadRect (harg1.unread x0)
/-- Weight tile `(n, g)` as loaded. -/
def rdW (n : ℕ) (hn : n < 22) (g : Fin 8) : Vec F S128x128 .fp8e4m3 :=
  View.readAt (Elt F) arg2.view (Rect.unit (s := S2880x1024) ![128 * n, 128 * g.val] S128x128.size (inbW n hn g)).toLoadRect (harg2.unread x1)
/-- Weight tile `g` of the last 64 rows as loaded. -/
def rdW64 (g : Fin 8) : Vec F S64x128 .fp8e4m3 :=
  View.readAt (Elt F) arg2.view (Rect.unit (s := S2880x1024) ![2816, 128 * g.val] S64x128.size (inbW64 g)).toLoadRect (harg2.unread x1)
/-- A weight scale as loaded. -/
def rdS (n : ℕ) (hn : n < 23) (g : Fin 8) : Elt F .f32 :=
  View.readAt (Elt F) arg3.view (Rect.unit (s := S23x128) (wsOff n i (BitVec.ofNat 32 g.val)) S1x1.size (inbS n hn i g)).toLoadRect (harg3.unread x2) (Shape.Idx.first (s := S1x1) (by decide))
/-- Row block `n` of the accumulator as loaded. -/
def rdA (n : ℕ) (hn : n < 22) : Vec F S128x256 .f32 :=
  View.readAt (Elt F) arg11.view (Rect.unit (s := S2880x256) ![128 * n, 0] S128x256.size (inbA n hn)).toLoadRect (harg11.unread xs0)
/-- The last 64 rows of the accumulator as loaded. -/
def rdA64 : Vec F S64x256 .f32 :=
  View.readAt (Elt F) arg11.view (Rect.unit (s := S2880x256) ![2816, 0] S64x256.size inb_S2880x256_S64x256_2816_0).toLoadRect (harg11.unread xs0)

/-- What row block `n` is replaced with, from what it held. -/
def newA (n : ℕ) (hn : n < 22) (old : Vec F S128x256 .f32) : FVec F S128x256 .f32 :=
  row128 (deqAll (rdX arg1 harg1 x0)) (rdW arg2 harg2 x1 n hn) (rdS arg3 harg3 i x2 n (by omega)) old
/-- What the last 64 rows are replaced with, from what they held. -/
def newA64 (old : Vec F S64x256 .f32) : FVec F S64x256 .f32 :=
  row64 (deqAll (rdX arg1 harg1 x0)) (rdW64 arg2 harg2 x1) (rdS arg3 harg3 i x2 22 (by omega)) old

/-- The stores into the first `n` row blocks, each adding to what the accumulator held before the point. -/
def blocks : (n : ℕ) → n ≤ 22 → List (View.Piece (Elt F) S2880x256 .f32)
  | 0, _ => []
  | n + 1, h => ⟨Rect.unit (s := S2880x256) ![128 * n, 0] S128x256.size (inbA n h), newA arg1 harg1 arg2 harg2 arg3 harg3 i x0 x1 x2 n h (rdA arg11 harg11 xs0 n h)⟩ :: blocks n (by omega)
/-- The stores into the accumulator at a point after the first. -/
def stores : List (View.Piece (Elt F) S2880x256 .f32) :=
  ⟨Rect.unit (s := S2880x256) ![2816, 0] S64x256.size inb_S2880x256_S64x256_2816_0, newA64 arg1 harg1 arg2 harg2 arg3 harg3 i x0 x1 x2 (rdA64 arg11 harg11 xs0)⟩ ::
    blocks arg1 harg1 arg2 harg2 arg3 harg3 arg11 harg11 i x0 x1 x2 xs0 22 le_rfl

/-- The zero that the accumulator is filled with at the first point. -/
def zeroA : FVec F S2880x256 .f32 :=
  shapeCast S2880x256 (broadcast S2880x256 (Scalar.ofBits .f32 0x00000000#32)) shapeCasts_S2880x256_S2880x256
/-- The stores into the accumulator at the first point up to row block `n`: the zero, then the blocks, each added to what the stores before it left. -/
def blocksFirst : (n : ℕ) → n ≤ 22 → List (View.Piece (Elt F) S2880x256 .f32)
  | 0, _ => [⟨Rect.unit (s := S2880x256) ![0, 0] S2880x256.size inb_S2880x256_S2880x256_0_0, zeroA⟩]
  | n + 1, h => ⟨Rect.unit (s := S2880x256) ![128 * n, 0] S128x256.size (inbA n h), newA arg1 harg1 arg2 harg2 arg3 harg3 i x0 x1 x2 n h
      (arg11.view.readCov (blocksFirst n (by omega)) (Rect.unit (s := S2880x256) ![128 * n, 0] S128x256.size (inbA n h)).toLoadRect)⟩ :: blocksFirst n (by omega)
/-- The stores into the accumulator at the first point. -/
def storesFirst : List (View.Piece (Elt F) S2880x256 .f32) :=
  ⟨Rect.unit (s := S2880x256) ![2816, 0] S64x256.size inb_S2880x256_S64x256_2816_0, newA64 arg1 harg1 arg2 harg2 arg3 harg3 i x0 x1 x2
    (arg11.view.readCov (blocksFirst arg1 harg1 arg2 harg2 arg3 harg3 arg11 i x0 x1 x2 22 le_rfl) (Rect.unit (s := S2880x256) ![2816, 0] S64x256.size inb_S2880x256_S64x256_2816_0).toLoadRect)⟩ ::
    blocksFirst arg1 harg1 arg2 harg2 arg3 harg3 arg11 i x0 x1 x2 22 le_rfl

/-- The stores into the block of codes. -/
def codeStores : List (View.Piece (Elt F) S256x1024 .fp8e4m3) :=
  let p := fun g : Fin 8 => (⟨Rect.unit (s := S256x1024) ![0, 128 * g.val] S256x128.size (inbX g), k0_pay36 (rdX arg1 harg1 x0 g)⟩ : View.Piece (Elt F) S256x1024 .fp8e4m3)
  [p 7, p 6, p 5, p 4, p 3, p 2, p 1, p 0]
end reads

end Cert.KernelIdeal.Body

end

end
-- ==== Proof.Value.Group.lean ====
/-
The kernel's quantiser of one group, read at an index.
-/
module

public import proofs.«01_k».proof.Proof.Value.Quant
public import proofs.«01_k».proof.Proof.Body.Step
public import Idealize.ShloMosaic.Lib.Pointwise

@[expose] public section

set_option maxRecDepth 16384

noncomputable section

namespace Cert.KernelIdeal.Body

open Cert.KernelIdeal.Gen
open Idealize.ShloMosaic Idealize.ShloMosaic.TcCoe Idealize.ShloMosaic.Tactic
open Cert.Exponent
open scoped BigOperators

open Cert.Quant

theorem pay33_apply (v : Vec Ideal S256x128 .bf16) (r : Fin 256) : k0_pay33 v (ix2 r 0) = amax fun k => v (ix2 r k) := by
  pointwise [k0_pay33, k0_pay32]
  rfl

theorem pay34_apply (v : Vec Ideal S256x128 .bf16) (r : Fin 256) : k0_pay34 v (ix2 r 0) = ebits ((amax fun k => v (ix2 r k)) * c448) := by
  rw [← pay33_apply]
  pointwise [k0_pay34]
  rfl

theorem pay35_apply (v : Vec Ideal S256x128 .bf16) (r : Fin 256) (h : InRange (amax fun k => v (ix2 r k))) :
    k0_pay35 v (ix2 r 0) = gscale fun k => v (ix2 r k) := by
  unfold gscale gexp
  rw [← scale_eq _ h, ← pay34_apply, ← pay33_apply]
  pointwise [k0_pay35]
  try rfl

theorem pay36_apply (v : Vec Ideal S256x128 .bf16) (r : Fin 256) (k : Fin 128) (h : InRange (amax fun k => v (ix2 r k))) :
    k0_pay36 v (ix2 r k) = gcode (fun k => v (ix2 r k)) k := by
  unfold gcode gexp
  rw [← inv_eq _ h, ← pay34_apply, ← pay33_apply]
  pointwise [k0_pay36, k0_pay32]
  try rfl

/-- A group multiplied out again: the code times the scale. -/
theorem deq_apply (v : Vec Ideal S256x128 .bf16) (r : Fin 256) (k : Fin 128) (h : InRange (amax fun k => v (ix2 r k))) :
    deq v (ix2 r k) = gcode (fun k => v (ix2 r k)) k * gscale fun k => v (ix2 r k) := by
  rw [← pay36_apply v r k h, ← pay35_apply v r h]
  pointwise [deq]
  try rfl

end Cert.KernelIdeal.Body

end

end
-- ==== Proof.Body.Pieces.lean ====
/-
The stores of the body at each point, in the terms of Step.lean.
-/
module

public import proofs.«01_k».proof.Proof.Body.Step

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The one store into the scale array at a point whose scale window held `X`. -/
def scaleStores (t : Fin cfg0.N) (c : Dev nD) (X : Vec F S256x128 .f32) : List (View.Piece (Elt F) S256x128 .f32) :=
  [⟨Rect.unit (s := S256x128) ![0, 0] S256x128.size inb_S256x128_S256x128_0_0, putScales (grid0.coords t) (rdX (ms0_0 t) (hs0_0 t) (iblk m c 0 t))
    (View.readAt (Elt F) (ms0_9 t).view (Rect.unit (s := S256x128) ![0, 0] S256x128.size inb_S256x128_S256x128_0_0).toLoadRect ((hs0_9 t).unread X))⟩]

/-- The stores into the block of codes at the first point. -/
theorem firstCodes (c : Dev nD) (t : Fin cfg0.N) (h0 : t.val % 16 = 0) (h1 : ¬t.val % 16 = 15)  :
    (firstAt m c t h0 h1).2.2.2.1 = codeStores (ms0_0 t) (hs0_0 t) (iblk m c 0 t) := by sl_kernel_rfl
/-- The store into the scale array at the first point. -/
theorem firstScales (c : Dev nD) (t : Fin cfg0.N) (h0 : t.val % 16 = 0) (h1 : ¬t.val % 16 = 15)  (X : Vec F S256x128 .f32) :
    (firstAt m c t h0 h1).2.2.2.2.1 X = scaleStores m t c X := by sl_kernel_rfl
/-- The stores into the accumulator at the first point. -/
theorem firstAcc (c : Dev nD) (t : Fin cfg0.N) (h0 : t.val % 16 = 0) (h1 : ¬t.val % 16 = 15)  :
    (firstAt m c t h0 h1).2.2.2.2.2.1 = storesFirst (ms0_0 t) (hs0_0 t) (ms0_1 t) (hs0_1 t) (ms0_2 t) (hs0_2 t) scM0_0 (grid0.coords t) (iblk m c 0 t) (iblk m c 1 t) (iblk m c 2 t) := by sl_kernel_rfl

/-- The stores into the block of codes at a middle point. -/
theorem midCodes (c : Dev nD) (t : Fin cfg0.N) (h0 : ¬t.val % 16 = 0) (h1 : ¬t.val % 16 = 15) (acc : Vec F S2880x256 .f32) :
    (midAt m c t h0 h1 acc).2.2.2.1 = codeStores (ms0_0 t) (hs0_0 t) (iblk m c 0 t) := by sl_kernel_rfl
/-- The store into the scale array at a middle point. -/
theorem midScales (c : Dev nD) (t : Fin cfg0.N) (h0 : ¬t.val % 16 = 0) (h1 : ¬t.val % 16 = 15) (acc : Vec F S2880x256 .f32) (X : Vec F S256x128 .f32) :
    (midAt m c t h0 h1 acc).2.2.2.2.1 X = scaleStores m t c X := by sl_kernel_rfl
/-- The stores into the accumulator at a middle point. -/
theorem midAcc (c : Dev nD) (t : Fin cfg0.N) (h0 : ¬t.val % 16 = 0) (h1 : ¬t.val % 16 = 15) (acc : Vec F S2880x256 .f32) :
    (midAt m c t h0 h1 acc).2.2.2.2.2.1 = stores (ms0_0 t) (hs0_0 t) (ms0_1 t) (hs0_1 t) (ms0_2 t) (hs0_2 t) scM0_0 (Memref.isWhole_whole _) (grid0.coords t) (iblk m c 0 t) (iblk m c 1 t) (iblk m c 2 t) acc := by sl_kernel_rfl

/-- The stores into the block of codes at the last point. -/
theorem lastCodes (c : Dev nD) (t : Fin cfg0.N) (h0 : ¬t.val % 16 = 0) (h1 : t.val % 16 = 15) (acc : Vec F S2880x256 .f32) :
    (lastAt m c t h0 h1 acc).2.2.2.1 = codeStores (ms0_0 t) (hs0_0 t) (iblk m c 0 t) := by sl_kernel_rfl
/-- The store into the scale array at the last point. -/
theorem lastScales (c : Dev nD) (t : Fin cfg0.N) (h0 : ¬t.val % 16 = 0) (h1 : t.val % 16 = 15) (acc : Vec F S2880x256 .f32) (X : Vec F S256x128 .f32) :
    (lastAt m c t h0 h1 acc).2.2.2.2.1 X = scaleStores m t c X := by sl_kernel_rfl
/-- The stores into the accumulator at the last point. -/
theorem lastAcc (c : Dev nD) (t : Fin cfg0.N) (h0 : ¬t.val % 16 = 0) (h1 : t.val % 16 = 15) (acc : Vec F S2880x256 .f32) :
    (lastAt m c t h0 h1 acc).2.2.2.2.2.1 = stores (ms0_0 t) (hs0_0 t) (ms0_1 t) (hs0_1 t) (ms0_2 t) (hs0_2 t) scM0_0 (Memref.isWhole_whole _) (grid0.coords t) (iblk m c 0 t) (iblk m c 1 t) (iblk m c 2 t) acc := by sl_kernel_rfl

end Cert.KernelIdeal.Body

end

end
-- ==== Proof.Body.Outs.lean ====
/-
The stores of the last grid point into the three results that are read off the accumulator.
-/
module

public import proofs.«01_k».proof.Proof.Body.Pieces

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The factor of the first normalisation, one per row of the activations: the inverse root of the mean square of the 2048 accumulator rows. -/
def invRms (v : Vec F S2048x256 .f32) : FVec F S1x256 .f32 :=
  rsqrt (addf (mulf (shapeCast S1x256 (multiReduction .add [0] S256 (mulf v v) 0x00000000#32 reduces_S2048x256_S256 (.inl rfl) rfl) shapeCasts_S256_S1x256)
    (broadcast S1x256 (Scalar.ofBits .f32 0x3A000000#32))) (broadcast S1x256 (Scalar.ofBits .f32 0x358637BD#32)))

/-- Column block `n` lies in the gain of the first normalisation. -/
theorem inbGq (n : ℕ) (hn : n < 16) : ∀ a, (![0, 128 * n] : Fin 2 → Nat) a + S1x128.size a ≤ S1x2048.size a := by
  intro a; fin_cases a
  · show 0 + 1 ≤ 1; omega
  · show 128 * n + 128 ≤ 2048; omega
/-- Column block `n` lies in the gain of the second normalisation. -/
theorem inbGkv (n : ℕ) (hn : n < 6) : ∀ a, (![0, 128 * n] : Fin 2 → Nat) a + S1x128.size a ≤ S1x768.size a := by
  intro a; fin_cases a
  · show 0 + 1 ≤ 1; omega
  · show 128 * n + 128 ≤ 768; omega
/-- Column block `n` lies in the first result. -/
theorem inbQ (n : ℕ) (hn : n < 16) : ∀ a, (![0, 128 * n] : Fin 2 → Nat) a + S256x128.size a ≤ S256x2048.size a := by
  intro a; fin_cases a
  · show 0 + 256 ≤ 256; omega
  · show 128 * n + 128 ≤ 2048; omega
/-- Column block `n` lies in the second result. -/
theorem inbKv (n : ℕ) (hn : n < 6) : ∀ a, (![0, 128 * n] : Fin 2 → Nat) a + S256x128.size a ≤ S256x768.size a := by
  intro a; fin_cases a
  · show 0 + 256 ≤ 256; omega
  · show 128 * n + 128 ≤ 768; omega
/-- Row block `n` of the rows from 2048 on lies in the accumulator. -/
theorem inbAk (n : ℕ) (hn : n < 6) : ∀ a, (![2048 + 128 * n, 0] : Fin 2 → Nat) a + S128x256.size a ≤ S2880x256.size a := by
  intro a; fin_cases a
  · show 2048 + 128 * n + 128 ≤ 2880; omega
  · show 0 + 256 ≤ 256; omega

section
variable (arg4 : Memref sig .tc .vmem S1x2048 .f32) (harg4 : arg4.IsWhole) (arg5 : Memref sig .tc .vmem S1x768 .f32) (harg5 : arg5.IsWhole)
  (arg11 : Memref sig .tc .vmem S2880x256 .f32) (x3 : Vec F S1x2048 .f32) (x4 : Vec F S1x768 .f32) (L : List (View.Piece (Elt F) S2880x256 .f32))

/-- The stores into the first `n` column blocks of the first result, the accumulator holding what `L` left. -/
def qStores : (n : ℕ) → n ≤ 16 → List (View.Piece (Elt F) S256x2048 .bf16)
  | 0, _ => []
  | n + 1, h => ⟨Rect.unit (s := S256x2048) ![0, 128 * n] S256x128.size (inbQ n h),
      k0_pay27 (invRms (arg11.view.readCov L (Rect.unit (s := S2880x256) ![0, 0] S2048x256.size inb_S2880x256_S2048x256_0_0).toLoadRect))
        (arg11.view.readCov L (Rect.unit (s := S2880x256) ![128 * n, 0] S128x256.size (inbA n (by omega))).toLoadRect)
        (View.readAt (Elt F) arg4.view (Rect.unit (s := S1x2048) ![0, 128 * n] S1x128.size (inbGq n h)).toLoadRect (harg4.unread x3))⟩ :: qStores n (by omega)

/-- The stores into the first `n` column blocks of the second result. -/
def kvStores : (n : ℕ) → n ≤ 6 → List (View.Piece (Elt F) S256x768 .bf16)
  | 0, _ => []
  | n + 1, h => ⟨Rect.unit (s := S256x768) ![0, 128 * n] S256x128.size (inbKv n h),
      k0_pay27 (k0_pay26 (arg11.view.readCov L (Rect.unit (s := S2880x256) ![2048, 0] S768x256.size inb_S2880x256_S768x256_2048_0).toLoadRect))
        (arg11.view.readCov L (Rect.unit (s := S2880x256) ![2048 + 128 * n, 0] S128x256.size (inbAk n h)).toLoadRect)
        (View.readAt (Elt F) arg5.view (Rect.unit (s := S1x768) ![0, 128 * n] S1x128.size (inbGkv n h)).toLoadRect (harg5.unread x4))⟩ :: kvStores n (by omega)

/-- The one store into the third result: the last 64 accumulator rows, transposed. -/
def peStores : List (View.Piece (Elt F) S256x64 .bf16) :=
  [⟨Rect.unit (s := S256x64) ![0, 0] S256x64.size inb_S256x64_S256x64_0_0,
    truncf .bf16 (transpose S256x64 [1, 0] (arg11.view.readCov L (Rect.unit (s := S2880x256) ![2816, 0] S64x256.size inb_S2880x256_S64x256_2816_0).toLoadRect) transposes_S64x256_p1_0_S256x64) bitsLt_bf16_f32⟩]
end

/-- The accumulator stores of the last point. -/
abbrev lastStores (c : Dev nD) (t : Fin cfg0.N) (acc : Vec F S2880x256 .f32) : List (View.Piece (Elt F) S2880x256 .f32) :=
  stores (ms0_0 t) (hs0_0 t) (ms0_1 t) (hs0_1 t) (ms0_2 t) (hs0_2 t) scM0_0 (Memref.isWhole_whole _) (grid0.coords t) (iblk m c 0 t) (iblk m c 1 t) (iblk m c 2 t) acc

/-- The stores into the first result. -/
theorem lastQ (c : Dev nD) (t : Fin cfg0.N) (h0 : ¬t.val % 16 = 0) (h1 : t.val % 16 = 15) (acc : Vec F S2880x256 .f32) :
    (lastAt m c t h0 h1 acc).1 = qStores (ms0_3 t) (hs0_3 t) scM0_0 (iblk m c 3 t) (lastStores m c t acc) 16 le_rfl := by sl_kernel_rfl
/-- The stores into the second result. -/
theorem lastKv (c : Dev nD) (t : Fin cfg0.N) (h0 : ¬t.val % 16 = 0) (h1 : t.val % 16 = 15) (acc : Vec F S2880x256 .f32) :
    (lastAt m c t h0 h1 acc).2.1 = kvStores (ms0_4 t) (hs0_4 t) scM0_0 (iblk m c 4 t) (lastStores m c t acc) 6 le_rfl := by sl_kernel_rfl
/-- The store into the third result. -/
theorem lastPe (c : Dev nD) (t : Fin cfg0.N) (h0 : ¬t.val % 16 = 0) (h1 : t.val % 16 = 15) (acc : Vec F S2880x256 .f32) :
    (lastAt m c t h0 h1 acc).2.2.1 = peStores scM0_0 (lastStores m c t acc) := by sl_kernel_rfl

end Cert.KernelIdeal.Body

end

end
-- ==== Proof.Value.Reads.lean ====
/-
The arrays that the kernel reads, and what each grid point loads of them, at an index.
-/
module

public import proofs.«01_k».proof.Proof.Body.Step
public import proofs.«01_k».proof.Proof.Body.Outs
public import proofs.«01_k».proof.Proof.Value.Exponent
public import Idealize.ShloMosaic.Lib.Pointwise
public import Idealize.ShloMosaic.Lib.WholeRead

@[expose] public section

set_option maxRecDepth 16384

noncomputable section

namespace Cert.KernelIdeal.Body

open Cert.KernelIdeal.Gen
open Idealize.ShloMosaic Idealize.ShloMosaic.TcCoe Idealize.ShloMosaic.Tactic
open Cert.Exponent
open scoped BigOperators

variable {F : FTy → Type} [FloatOps F] [Named F] (m : (ℓ : Loc nD τ sig) → Buf (Elt F) ℓ)

/-- The activations, as the grid finds them. -/
def arrX (c : Dev nD) : Vec F S256x16384 .bf16 := V m c (Pipeline.arrRef spec0 0)
/-- The weights. -/
def arrW (c : Dev nD) : Vec F S2880x16384 .fp8e4m3 := V m c (Pipeline.arrRef spec0 1)
/-- The weights' scales. -/
def arrS (c : Dev nD) : Vec F S23x128 .f32 := V m c (Pipeline.arrRef spec0 2)
/-- The gains of the first normalisation. -/
def arrGq (c : Dev nD) : Vec F S1x2048 .f32 := V m c (Pipeline.arrRef spec0 3)
/-- The gains of the second normalisation. -/
def arrGkv (c : Dev nD) : Vec F S1x768 .f32 := V m c (Pipeline.arrRef spec0 4)

theorem N16 : cfg0.N = 16 := N_0
/-- Column `k` of chunk `t` is a column. -/
theorem chunk_lt (t : Fin cfg0.N) (k : Fin 1024) : 1024 * t.val + k.val < 16384 := by
  have := lt_of_lt_of_eq t.isLt N16; omega

theorem index0 : ∀ t : Fin cfg0.N, win0_0.index t (0 : Fin 2) = 0 ∧ win0_0.index t (1 : Fin 2) = t.val :=
  (by decide +kernel : ∀ t : Fin grid0.N, _)
theorem index1 : ∀ t : Fin cfg0.N, win0_1.index t (0 : Fin 2) = 0 ∧ win0_1.index t (1 : Fin 2) = t.val :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)

theorem iblk0_apply (c : Dev nD) (t : Fin cfg0.N) (r : Fin 256) (k : Fin 1024) :
    (iblk m c 0 t : Vec F S256x1024 .bf16) (ix2 r k) = arrX m c (ix2 r ⟨1024 * t.val + k.val, chunk_lt t k⟩) := by
  obtain ⟨e0, e1⟩ := index0 t
  show V m c (Pipeline.arrRef spec0 0) (((cfg0.win 0).blk t).view.emb (ix2 r k)) = V m c (Pipeline.arrRef spec0 0) _
  have hb0 : (((cfg0.win 0).blk t).view.emb (ix2 r k) 0).val = win0_0.index t (0 : Fin 2) * 256 + 1 * r.val := rfl
  have hb1 : (((cfg0.win 0).blk t).view.emb (ix2 r k) 1).val = win0_0.index t (1 : Fin 2) * 1024 + 1 * k.val := rfl
  congr 1; funext a; apply Fin.ext
  match a with
  | ⟨0, _⟩ => show (((cfg0.win 0).blk t).view.emb (ix2 r k) 0).val = r.val; rw [hb0, e0]; omega
  | ⟨1, _⟩ => show (((cfg0.win 0).blk t).view.emb (ix2 r k) 1).val = 1024 * t.val + k.val; rw [hb1, e1]; omega

theorem iblk1_apply (c : Dev nD) (t : Fin cfg0.N) (r : Fin 2880) (k : Fin 1024) :
    (iblk m c 1 t : Vec F S2880x1024 .fp8e4m3) (ix2 r k) = arrW m c (ix2 r ⟨1024 * t.val + k.val, chunk_lt t k⟩) := by
  obtain ⟨e0, e1⟩ := index1 t
  show V m c (Pipeline.arrRef spec0 1) (((cfg0.win 1).blk t).view.emb (ix2 r k)) = V m c (Pipeline.arrRef spec0 1) _
  have hb0 : (((cfg0.win 1).blk t).view.emb (ix2 r k) 0).val = win0_1.index t (0 : Fin 2) * 2880 + 1 * r.val := rfl
  have hb1 : (((cfg0.win 1).blk t).view.emb (ix2 r k) 1).val = win0_1.index t (1 : Fin 2) * 1024 + 1 * k.val := rfl
  congr 1; funext a; apply Fin.ext
  match a with
  | ⟨0, _⟩ => show (((cfg0.win 1).blk t).view.emb (ix2 r k) 0).val = r.val; rw [hb0, e0]; omega
  | ⟨1, _⟩ => show (((cfg0.win 1).blk t).view.emb (ix2 r k) 1).val = 1024 * t.val + k.val; rw [hb1, e1]; omega

theorem iblk2_eq (c : Dev nD) (t : Fin cfg0.N) : (iblk m c 2 t : Vec F S23x128 .f32) = arrS m c := by
  obtain ⟨e0, e1⟩ := index2 t
  funext y
  show V m c (Pipeline.arrRef spec0 2) (((cfg0.win 2).blk t).view.emb y) = V m c (Pipeline.arrRef spec0 2) y
  have hb0 : (((cfg0.win 2).blk t).view.emb y 0).val = win0_2.index t (0 : Fin 2) * 23 + 1 * (y 0).val := rfl
  have hb1 : (((cfg0.win 2).blk t).view.emb y 1).val = win0_2.index t (1 : Fin 2) * 128 + 1 * (y 1).val := rfl
  congr 1; funext a; apply Fin.ext
  match a with
  | ⟨0, _⟩ => show (((cfg0.win 2).blk t).view.emb y 0).val = (y 0).val; rw [hb0, e0]; omega
  | ⟨1, _⟩ => show (((cfg0.win 2).blk t).view.emb y 1).val = (y 1).val; rw [hb1, e1]; omega

theorem iblk3_eq (c : Dev nD) (t : Fin cfg0.N) : (iblk m c 3 t : Vec F S1x2048 .f32) = arrGq m c := by
  obtain ⟨e0, e1⟩ := index3 t
  funext y
  show V m c (Pipeline.arrRef spec0 3) (((cfg0.win 3).blk t).view.emb y) = V m c (Pipeline.arrRef spec0 3) y
  have hb0 : (((cfg0.win 3).blk t).view.emb y 0).val = win0_3.index t (0 : Fin 2) * 1 + 1 * (y 0).val := rfl
  have hb1 : (((cfg0.win 3).blk t).view.emb y 1).val = win0_3.index t (1 : Fin 2) * 2048 + 1 * (y 1).val := rfl
  congr 1; funext a; apply Fin.ext
  match a with
  | ⟨0, _⟩ => show (((cfg0.win 3).blk t).view.emb y 0).val = (y 0).val; rw [hb0, e0]; omega
  | ⟨1, _⟩ => show (((cfg0.win 3).blk t).view.emb y 1).val = (y 1).val; rw [hb1, e1]; omega

theorem iblk4_eq (c : Dev nD) (t : Fin cfg0.N) : (iblk m c 4 t : Vec F S1x768 .f32) = arrGkv m c := by
  obtain ⟨e0, e1⟩ := index4 t
  funext y
  show V m c (Pipeline.arrRef spec0 4) (((cfg0.win 4).blk t).view.emb y) = V m c (Pipeline.arrRef spec0 4) y
  have hb0 : (((cfg0.win 4).blk t).view.emb y 0).val = win0_4.index t (0 : Fin 2) * 1 + 1 * (y 0).val := rfl
  have hb1 : (((cfg0.win 4).blk t).view.emb y 1).val = win0_4.index t (1 : Fin 2) * 768 + 1 * (y 1).val := rfl
  congr 1; funext a; apply Fin.ext
  match a with
  | ⟨0, _⟩ => show (((cfg0.win 4).blk t).view.emb y 0).val = (y 0).val; rw [hb0, e0]; omega
  | ⟨1, _⟩ => show (((cfg0.win 4).blk t).view.emb y 1).val = (y 1).val; rw [hb1, e1]; omega

section reads
variable (arg1 : Memref sig .tc .vmem S256x1024 .bf16) (harg1 : arg1.IsWhole) (arg2 : Memref sig .tc .vmem S2880x1024 .fp8e4m3) (harg2 : arg2.IsWhole)
  (arg3 : Memref sig .tc .smem S23x128 .f32) (harg3 : arg3.IsWhole) (arg11 : Memref sig .tc .vmem S2880x256 .f32) (harg11 : arg11.IsWhole)
  (i : grid0.Coords) (x0 : Vec F S256x1024 .bf16) (x1 : Vec F S2880x1024 .fp8e4m3) (x2 : Vec F S23x128 .f32) (xs0 : Vec F S2880x256 .f32)

theorem rdX_apply (g : Fin 8) (r : Fin 256) (k : Fin 128) :
    rdX arg1 harg1 x0 g (ix2 r k) = x0 (ix2 r ⟨128 * g.val + k.val, by omega⟩) := by
  unfold rdX
  rw [Memref.IsWhole.readAt_unread]
  congr 1; funext a; apply Fin.ext
  match a with
  | ⟨0, _⟩ => show 0 + 1 * r.val = r.val; omega
  | ⟨1, _⟩ => show 128 * g.val + 1 * k.val = 128 * g.val + k.val; omega

theorem rdW_apply (n : ℕ) (hn : n < 22) (g : Fin 8) (r : Fin 128) (k : Fin 128) :
    rdW arg2 harg2 x1 n hn g (ix2 r k) = x1 (ix2 ⟨128 * n + r.val, by omega⟩ ⟨128 * g.val + k.val, by omega⟩) := by
  unfold rdW
  rw [Memref.IsWhole.readAt_unread]
  congr 1; funext a; apply Fin.ext
  match a with
  | ⟨0, _⟩ => show 128 * n + 1 * r.val = 128 * n + r.val; omega
  | ⟨1, _⟩ => show 128 * g.val + 1 * k.val = 128 * g.val + k.val; omega

theorem rdW64_apply (g : Fin 8) (r : Fin 64) (k : Fin 128) :
    rdW64 arg2 harg2 x1 g (ix2 r k) = x1 (ix2 ⟨2816 + r.val, by omega⟩ ⟨128 * g.val + k.val, by omega⟩) := by
  unfold rdW64
  rw [Memref.IsWhole.readAt_unread]
  congr 1; funext a; apply Fin.ext
  match a with
  | ⟨0, _⟩ => show 2816 + 1 * r.val = 2816 + r.val; omega
  | ⟨1, _⟩ => show 128 * g.val + 1 * k.val = 128 * g.val + k.val; omega

theorem rdA_apply (n : ℕ) (hn : n < 22) (r : Fin 128) (k : Fin 256) :
    rdA arg11 harg11 xs0 n hn (ix2 r k) = xs0 (ix2 ⟨128 * n + r.val, by omega⟩ k) := by
  unfold rdA
  rw [Memref.IsWhole.readAt_unread]
  congr 1; funext a; apply Fin.ext
  match a with
  | ⟨0, _⟩ => show 128 * n + 1 * r.val = 128 * n + r.val; omega
  | ⟨1, _⟩ => show 0 + 1 * k.val = k.val; omega

theorem rdA64_apply (r : Fin 64) (k : Fin 256) : rdA64 arg11 harg11 xs0 (ix2 r k) = xs0 (ix2 ⟨2816 + r.val, by omega⟩ k) := by
  unfold rdA64
  rw [Memref.IsWhole.readAt_unread]
  congr 1; funext a; apply Fin.ext
  match a with
  | ⟨0, _⟩ => show 2816 + 1 * r.val = 2816 + r.val; omega
  | ⟨1, _⟩ => show 0 + 1 * k.val = k.val; omega
end reads

/-- The lane of a weight scale: `8 * step + g`. -/
theorem lane_eq : ∀ (t : Fin 16) (g : Fin 8), (Scalar.indexCast (Scalar.addi (Scalar.muli (BitVec.ofNat 32 t.val) 8#32) (BitVec.ofNat 32 g.val))).toNat = 8 * t.val + g.val := by
  decide +kernel

theorem coord_eq : ∀ t : Fin cfg0.N, (grid0.coords t 0).val = t.val := (by decide +kernel : ∀ t : Fin grid0.N, _)

theorem rdS_apply (arg3 : Memref sig .tc .smem S23x128 .f32) (harg3 : arg3.IsWhole) (t : Fin cfg0.N) (x2 : Vec F S23x128 .f32) (n : ℕ) (hn : n < 23) (g : Fin 8) :
    rdS arg3 harg3 (grid0.coords t) x2 n hn g = x2 (ix2 ⟨n, hn⟩ ⟨8 * t.val + g.val, by have := lt_of_lt_of_eq t.isLt N16; omega⟩) := by
  unfold rdS
  rw [Memref.IsWhole.readAt_unread]
  congr 1; funext a; apply Fin.ext
  match a with
  | ⟨0, _⟩ => show n + 1 * 0 = n; omega
  | ⟨1, _⟩ =>
    show (Scalar.indexCast (Scalar.addi (Scalar.muli (BitVec.ofNat 32 (grid0.coords t 0).val) 8#32) (BitVec.ofNat 32 g.val))).toNat + 1 * 0 = 8 * t.val + g.val
    rw [coord_eq]; exact lane_eq ⟨t.val, lt_of_lt_of_eq t.isLt N16⟩ g

end Cert.KernelIdeal.Body

end

end
-- ==== Proof.Value.Chunk.lean ====
/-
One chunk's part of the product, as the kernel computes it, read at an index.
-/
module

public import proofs.«01_k».proof.Proof.Value.Group
public import proofs.«01_k».proof.Proof.Value.Reads

@[expose] public section

set_option maxRecDepth 16384

noncomputable section

namespace Cert.KernelIdeal.Body

open Cert.KernelIdeal.Gen
open Idealize.ShloMosaic Idealize.ShloMosaic.TcCoe Idealize.ShloMosaic.Tactic
open Cert.Exponent
open scoped BigOperators

open Cert.Quant

/-- The eight groups side by side, read at a column. -/
theorem deqAll_apply {F : FTy → Type} [FloatOps F] [Named F] (xg : Fin 8 → Vec F S256x128 .bf16) (i : Fin 256) (k : Fin 1024) :
    deqAll xg (ix2 i k) = deq (xg ⟨k.val / 128, by omega⟩) (ix2 i ⟨k.val % 128, by omega⟩) := by
  refine concatenate_ofFn_apply (t := S256x1024) (s₁ := S256x128) 1 (fun g : Fin 8 => deq (xg g)) concatenates_S256x128_S256x128_S256x128_S256x128_S256x128_S256x128_S256x128_S256x128_S256x1024_d1 rfl 128 rfl (ix2 i k) ⟨k.val / 128, by omega⟩ rfl (ix2 i ⟨k.val % 128, by omega⟩) rfl ?_
  intro b hb
  match b with
  | ⟨0, _⟩ => rfl
  | ⟨1, _⟩ => exact absurd rfl hb

/-- Eight tiles of weights multiplied out, side by side. -/
def wcat (w : Fin 8 → Vec Ideal S128x128 .fp8e4m3) (s : Fin 8 → Elt Ideal .f32) : FVec Ideal S128x1024 .bf16 :=
  concatenate S128x1024 1 (List.ofFn fun g : Fin 8 => (⟨S128x128, wdeq (w g) (s g)⟩ : (s : Shape) × (s.Idx → Ideal .bf16))) concatenates_S128x128_S128x128_S128x128_S128x128_S128x128_S128x128_S128x128_S128x128_S128x1024_d1
/-- The same of 64 rows. -/
def wcat64 (w : Fin 8 → Vec Ideal S64x128 .fp8e4m3) (s : Fin 8 → Elt Ideal .f32) : FVec Ideal S64x1024 .bf16 :=
  concatenate S64x1024 1 (List.ofFn fun g : Fin 8 => (⟨S64x128, wdeq64 (w g) (s g)⟩ : (s : Shape) × (s.Idx → Ideal .bf16))) concatenates_S64x128_S64x128_S64x128_S64x128_S64x128_S64x128_S64x128_S64x128_S64x1024_d1

theorem wdeq_apply (w : Vec Ideal S128x128 .fp8e4m3) (s : Elt Ideal .f32) (r k : Fin 128) : wdeq w s (ix2 r k) = w (ix2 r k) * s := by
  pointwise [wdeq]
  try rfl
theorem wdeq64_apply (w : Vec Ideal S64x128 .fp8e4m3) (s : Elt Ideal .f32) (r : Fin 64) (k : Fin 128) : wdeq64 w s (ix2 r k) = w (ix2 r k) * s := by
  pointwise [wdeq64]
  try rfl

theorem wcat_apply (w : Fin 8 → Vec Ideal S128x128 .fp8e4m3) (s : Fin 8 → Elt Ideal .f32) (r : Fin 128) (k : Fin 1024) :
    wcat w s (ix2 r k) = w ⟨k.val / 128, by omega⟩ (ix2 r ⟨k.val % 128, by omega⟩) * s ⟨k.val / 128, by omega⟩ := by
  rw [← wdeq_apply]
  refine concatenate_ofFn_apply (t := S128x1024) (s₁ := S128x128) 1 (fun g : Fin 8 => wdeq (w g) (s g)) concatenates_S128x128_S128x128_S128x128_S128x128_S128x128_S128x128_S128x128_S128x128_S128x1024_d1 rfl 128 rfl (ix2 r k) ⟨k.val / 128, by omega⟩ rfl (ix2 r ⟨k.val % 128, by omega⟩) rfl ?_
  intro b hb
  match b with
  | ⟨0, _⟩ => rfl
  | ⟨1, _⟩ => exact absurd rfl hb
theorem wcat64_apply (w : Fin 8 → Vec Ideal S64x128 .fp8e4m3) (s : Fin 8 → Elt Ideal .f32) (r : Fin 64) (k : Fin 1024) :
    wcat64 w s (ix2 r k) = w ⟨k.val / 128, by omega⟩ (ix2 r ⟨k.val % 128, by omega⟩) * s ⟨k.val / 128, by omega⟩ := by
  rw [← wdeq64_apply]
  refine concatenate_ofFn_apply (t := S64x1024) (s₁ := S64x128) 1 (fun g : Fin 8 => wdeq64 (w g) (s g)) concatenates_S64x128_S64x128_S64x128_S64x128_S64x128_S64x128_S64x128_S64x128_S64x1024_d1 rfl 128 rfl (ix2 r k) ⟨k.val / 128, by omega⟩ rfl (ix2 r ⟨k.val % 128, by omega⟩) rfl ?_
  intro b hb
  match b with
  | ⟨0, _⟩ => rfl
  | ⟨1, _⟩ => exact absurd rfl hb

/-- A block of rows plus a product, the two factors given. -/
def addDot (a : FVec Ideal S128x1024 .bf16) (b : FVec Ideal S256x1024 .bf16) (old : Vec Ideal S128x256 .f32) : FVec Ideal S128x256 .f32 :=
  shapeCast S128x256 (addf old (matmul dot_S128x1024_S256x1024_S128x256_1_1_0_0_n_n none a b (constant S128x256 .f32 0x00000000#32))) shapeCasts_S128x256_S128x256
/-- The same of 64 rows. -/
def addDot64 (a : FVec Ideal S64x1024 .bf16) (b : FVec Ideal S256x1024 .bf16) (old : Vec Ideal S64x256 .f32) : FVec Ideal S64x256 .f32 :=
  shapeCast S64x256 (addf old (matmul dot_S64x1024_S256x1024_S64x256_1_1_0_0_n_n none a b (constant S64x256 .f32 0x00000000#32))) shapeCasts_S64x256_S64x256

theorem addDot_apply (a : FVec Ideal S128x1024 .bf16) (b : FVec Ideal S256x1024 .bf16) (old : Vec Ideal S128x256 .f32) (r : Fin 128) (i : Fin 256) :
    addDot a b old (ix2 r i) = old (ix2 r i) + ∑ k : Fin 1024, a (ix2 r k) * b (ix2 i k) := by
  pointwise [addDot]
  try simp only [zero_add]
theorem addDot64_apply (a : FVec Ideal S64x1024 .bf16) (b : FVec Ideal S256x1024 .bf16) (old : Vec Ideal S64x256 .f32) (r : Fin 64) (i : Fin 256) :
    addDot64 a b old (ix2 r i) = old (ix2 r i) + ∑ k : Fin 1024, a (ix2 r k) * b (ix2 i k) := by
  pointwise [addDot64]
  try simp only [zero_add]

theorem row128_eq (xd : FVec Ideal S256x1024 .bf16) (w : Fin 8 → Vec Ideal S128x128 .fp8e4m3) (s : Fin 8 → Elt Ideal .f32) (old : Vec Ideal S128x256 .f32) :
    row128 xd w s old = addDot (wcat w s) xd old := rfl
theorem row64_eq (xd : FVec Ideal S256x1024 .bf16) (w : Fin 8 → Vec Ideal S64x128 .fp8e4m3) (s : Fin 8 → Elt Ideal .f32) (old : Vec Ideal S64x256 .f32) :
    row64 xd w s old = addDot64 (wcat64 w s) xd old := rfl

variable (m : (ℓ : Loc nD τ sig) → Buf (Elt Ideal) ℓ) (c : Dev nD)

/-- The activations by row and column. -/
def fX (r : Fin 256) (k : Fin 16384) : EReal := arrX m c (ix2 r k)
/-- The weights by row and column. -/
def fW (r : Fin 2880) (k : Fin 16384) : EReal := arrW m c (ix2 r k)
/-- The weights' scales by row and column. -/
def fS (r : Fin 23) (k : Fin 128) : EReal := arrS m c (ix2 r k)

/-- Every group's largest magnitude is in range. -/
def Ranged : Prop := ∀ (r : Fin 256) (g : Fin 128), InRange (amax (grp (fX m c) r g))

/-- A grid point as one of the sixteen chunks. -/
abbrev pt (t : Fin cfg0.N) : Fin 16 := ⟨t.val, lt_of_lt_of_eq t.isLt N16⟩

/-- Group `g` of the chunk is group `8 t + g` of the row. -/
theorem rdX_grp (t : Fin cfg0.N) (g : Fin 8) (i : Fin 256) :
    (fun k => rdX (ms0_0 t) (hs0_0 t) (iblk m c 0 t) g (ix2 i k)) = grp (fX m c) i ⟨8 * (pt t).val + g.val, by omega⟩ := by
  funext k
  rw [rdX_apply]
  refine (iblk0_apply m c t i ⟨128 * g.val + k.val, by omega⟩).trans ?_
  unfold grp fX
  congr 2
  apply Fin.ext
  show 1024 * t.val + (128 * g.val + k.val) = (8 * t.val + g.val) * 128 + k.val
  omega

theorem rdXd_apply (h : Ranged m c) (t : Fin cfg0.N) (i : Fin 256) (k : Fin 1024) :
    deqAll (rdX (ms0_0 t) (hs0_0 t) (iblk m c 0 t)) (ix2 i k) = xdq (fX m c) i ⟨1024 * (pt t).val + k.val, by omega⟩ := by
  have e : (⟨8 * (pt t).val + k.val / 128, by omega⟩ : Fin 128) = ⟨(1024 * (pt t).val + k.val) / 128, by omega⟩ := Fin.ext (by show _ = (_ : ℕ); simp only; omega)
  have e' : (⟨k.val % 128, by omega⟩ : Fin 128) = ⟨(1024 * (pt t).val + k.val) % 128, by omega⟩ := Fin.ext (by show _ = (_ : ℕ); simp only; omega)
  rw [deqAll_apply, deq_apply _ _ _ (by rw [rdX_grp]; exact h _ _), rdX_grp]
  unfold xdq
  simp only [e, e']

theorem newA_apply (h : Ranged m c) (t : Fin cfg0.N) (n : ℕ) (hn : n < 22) (old : Vec Ideal S128x256 .f32) (r : Fin 128) (i : Fin 256) :
    newA (ms0_0 t) (hs0_0 t) (ms0_1 t) (hs0_1 t) (ms0_2 t) (hs0_2 t) (grid0.coords t) (iblk m c 0 t) (iblk m c 1 t) (iblk m c 2 t) n hn old (ix2 r i)
      = old (ix2 r i) + chunk (fW m c) (fS m c) (fX m c) (pt t) ⟨128 * n + r.val, by omega⟩ i := by
  unfold newA
  rw [row128_eq, addDot_apply]
  unfold chunk
  congr 1
  refine Finset.sum_congr rfl fun k _ => ?_
  rw [rdXd_apply m c h, wcat_apply, rdW_apply, rdS_apply, iblk2_eq]
  unfold wdq
  refine congrArg (· * _) ?_
  refine congrArg₂ (· * ·) ?_ ?_
  · refine (iblk1_apply m c t _ _).trans ?_
    unfold fW
    congr 2
    apply Fin.ext
    show 1024 * t.val + (128 * (k.val / 128) + k.val % 128) = 1024 * t.val + k.val
    omega
  · unfold fS
    congr 2 <;> apply Fin.ext
    · show n = (128 * n + r.val) / 128; omega
    · show 8 * t.val + k.val / 128 = (1024 * t.val + k.val) / 128; omega

theorem newA64_apply (h : Ranged m c) (t : Fin cfg0.N) (old : Vec Ideal S64x256 .f32) (r : Fin 64) (i : Fin 256) :
    newA64 (ms0_0 t) (hs0_0 t) (ms0_1 t) (hs0_1 t) (ms0_2 t) (hs0_2 t) (grid0.coords t) (iblk m c 0 t) (iblk m c 1 t) (iblk m c 2 t) old (ix2 r i)
      = old (ix2 r i) + chunk (fW m c) (fS m c) (fX m c) (pt t) ⟨2816 + r.val, by omega⟩ i := by
  unfold newA64
  rw [row64_eq, addDot64_apply]
  unfold chunk
  congr 1
  refine Finset.sum_congr rfl fun k _ => ?_
  rw [rdXd_apply m c h, wcat64_apply, rdW64_apply, rdS_apply, iblk2_eq]
  unfold wdq
  refine congrArg (· * _) ?_
  refine congrArg₂ (· * ·) ?_ ?_
  · refine (iblk1_apply m c t _ _).trans ?_
    unfold fW
    congr 2
    apply Fin.ext
    show 1024 * t.val + (128 * (k.val / 128) + k.val % 128) = 1024 * t.val + k.val
    omega
  · unfold fS
    congr 2 <;> apply Fin.ext
    · show 22 = (2816 + r.val) / 128; omega
    · show 8 * t.val + k.val / 128 = (1024 * t.val + k.val) / 128; omega

end Cert.KernelIdeal.Body

end

end
-- ==== Proof.Value.RefGroup.lean ====
/-
The reference's quantiser, read at an index.
-/
module

public import proofs.«01_k».proof.Proof.Value.Quant
public import proofs.«01_k».proof.Proof.Gen.ReferenceIdeal.Value
public import Idealize.ShloMosaic.Lib.Pointwise

@[expose] public section

set_option maxRecDepth 16384

noncomputable section

namespace Cert.ReferenceIdeal.Body

open Cert.ReferenceIdeal.Gen
open Idealize.ShloMosaic Idealize.ShloMosaic.TcCoe Idealize.ShloMosaic.Tactic
open Cert.Exponent
open scoped BigOperators

open Cert.Quant

/-- The rows of an array. -/
def rows (x : Vec Ideal S256x16384 .bf16) (r : Fin 256) (k : Fin 16384) : EReal := x (ix2 r k)

theorem pay3_apply (x : Vec Ideal S256x16384 .bf16) (r : Fin 256) (g k : Fin 128) : k0_pay3 x (ix3 r g k) = grp (rows x) r g k := by
  pointwise [k0_pay3]
  rfl

/-- The largest magnitudes of the groups. -/
def maxima (y : FVec Ideal S256x128x128 .f32) : FVec Ideal S256x128 .f32 :=
  multiReduction .maximumf [2] S256x128 (absf y) 0xFF800000#32 reduces_S256x128x128_S256x128 (.inl rfl) rfl

theorem maxima_apply (y : FVec Ideal S256x128x128 .f32) (r : Fin 256) (g : Fin 128) : maxima y (ix2 r g) = amax fun k => y (ix3 r g k) := by
  pointwise [maxima]
  rfl

/-- The exponents, from the largest magnitudes. -/
def expo (a : FVec Ideal S256x128 .f32) : FVec Ideal S256x128 .f32 :=
  select (cmpf .oeq a (broadcast S256x128 (Scalar.ofBits .f32 0x00000000#32)))
    (broadcast S256x128 (Scalar.sitofp .f32 (0#32)))
    (addf (floor (divf (log (mulf a (broadcast S256x128 (Scalar.ofBits .f32 0x3B124925#32))))
      (broadcast S256x128 (Named.named κ "ln2" 0x3F317218#32)))) (broadcast S256x128 (Scalar.ofBits .f32 0x3F800000#32)))

theorem pay4_eq (x : Vec Ideal S256x16384 .bf16) : k0_pay4 x = expo (maxima (k0_pay3 x)) := rfl

theorem ln2_eq : (Named.named κ "ln2" 0x3F317218#32 : Ideal .f32) = ((Real.log 2 : ℝ) : EReal) := rfl

theorem expo_apply (a : FVec Ideal S256x128 .f32) (r : Fin 256) (g : Fin 128) :
    expo a (ix2 r g) = if a (ix2 r g) = 0 then 0 else lexp (a (ix2 r g) * c448) := by
  pointwise [expo]
  have h0 : ((((0#32 : BitVec 32).toInt : ℤ) : ℝ) : EReal) = 0 := by simp
  rw [h0, ln2_eq]

theorem pay4_apply (x : Vec Ideal S256x16384 .bf16) (r : Fin 256) (g : Fin 128) : k0_pay4 x (ix2 r g) = gexp (grp (rows x) r g) := by
  have e : (fun k => k0_pay3 x (ix3 r g k)) = grp (rows x) r g := funext fun k => pay3_apply x r g k
  rw [pay4_eq, expo_apply, maxima_apply, e]
  rfl

theorem exp2_apply' (e : FVec Ideal S256x128 .f32) (r : Fin 256) (g : Fin 128) : exp2 e (ix2 r g) = Ideal.exp2 (e (ix2 r g)) := rfl

theorem pay5_eq (x : Vec Ideal S256x16384 .bf16) : k0_pay5 x = exp2 (k0_pay4 x) := rfl

theorem pay5_apply (x : Vec Ideal S256x16384 .bf16) (r : Fin 256) (g : Fin 128) : k0_pay5 x (ix2 r g) = gscale (grp (rows x) r g) := by
  rw [pay5_eq, exp2_apply', pay4_apply]
  rfl

/-- The codes, from the groups and the exponents. -/
def codes (y : FVec Ideal S256x128x128 .f32) (e : FVec Ideal S256x128 .f32) : FVec Ideal S256x128x128 .fp8e4m3 :=
  truncf .fp8e4m3 (minimumf (broadcast S256x128x128 (Scalar.ofBits .f32 0x43E00000#32))
    (maximumf (broadcast S256x128x128 (Scalar.ofBits .f32 0xC3E00000#32))
      (mulf y (broadcastTo S256x128x128 (shapeCast S256x128x1 (exp2 (subf (broadcast S256x128 (Scalar.ofBits .f32 0x00000000#32)) e)) shapeCasts_S256x128_S256x128x1)
        broadcasts_S256x128x1_S256x128x128)))) bitsLt_fp8e4m3_f32

theorem pay6_eq (x : Vec Ideal S256x16384 .bf16) : k0_pay6 x = codes (k0_pay3 x) (k0_pay4 x) := rfl

theorem codes_apply (y : FVec Ideal S256x128x128 .f32) (e : FVec Ideal S256x128 .f32) (r : Fin 256) (g k : Fin 128) :
    codes y e (ix3 r g k) = min (Ideal.ofBits .f32 1138753536#32) (max (Ideal.ofBits .f32 3286237184#32) (y (ix3 r g k) * Ideal.exp2 (0 - e (ix2 r g)))) := by
  pointwise [codes]
  rfl

theorem pay6_apply (x : Vec Ideal S256x16384 .bf16) (r : Fin 256) (g k : Fin 128) : k0_pay6 x (ix3 r g k) = gcode (grp (rows x) r g) k := by
  rw [pay6_eq, codes_apply, pay4_apply, pay3_apply]
  rfl

end Cert.ReferenceIdeal.Body

end

end
-- ==== Proof.Value.Normed.lean ====
/-
The two normalisations as sums and products of extended reals, and a division by a power of two or by a named constant as a product.
-/
module

public import proofs.«01_k».proof.Proof.Value.Quant

@[expose] public section

set_option maxRecDepth 16384

noncomputable section

namespace Cert.Quant

open Idealize.ShloMosaic
open Idealize.ShloMosaic Idealize.ShloMosaic.TcCoe Idealize.ShloMosaic.Tactic
open Cert.Exponent
open scoped BigOperators

/-- The small number added to a mean square. -/
def eps : EReal := Ideal.ofBits .f32 0x358637BD#32

/-- The first normalisation: rows 0 to 2047 of the product, by the inverse root of their mean square, times a gain. -/
def qOut (P : Fin 2880 → Fin 256 → EReal) (γ : Fin 2048 → EReal) (i : Fin 256) (j : Fin 2048) : EReal :=
  P ⟨j.val, by omega⟩ i * Ideal.rsqrt ((∑ ρ : Fin 2048, P ⟨ρ.val, by omega⟩ i * P ⟨ρ.val, by omega⟩ i) * Ideal.ofBits .f32 0x3A000000#32 + eps) * γ j

/-- The second normalisation: rows 2048 to 2815. -/
def kvOut (P : Fin 2880 → Fin 256 → EReal) (γ : Fin 768 → EReal) (i : Fin 256) (j : Fin 768) : EReal :=
  P ⟨2048 + j.val, by omega⟩ i * Ideal.rsqrt ((∑ ρ : Fin 768, P ⟨2048 + ρ.val, by omega⟩ i * P ⟨2048 + ρ.val, by omega⟩ i) * ((1 / 768 : ℝ) : EReal) + eps) * γ j

/-- The rest: rows 2816 to 2879, as they are. -/
def peOut (P : Fin 2880 → Fin 256 → EReal) (i : Fin 256) (j : Fin 64) : EReal := P ⟨2816 + j.val, by omega⟩ i

theorem div_2048 (x : EReal) : Ideal.div x (Ideal.ofBits .f32 0x45000000#32) = x * Ideal.ofBits .f32 0x3A000000#32 := by
  have h : Ideal.ofBits .f32 0x45000000#32 = ((2048 : ℝ) : EReal) := by
    simp [Ideal.ofBits, Ideal.ieee, -EReal.coe_mul]; norm_num
  have h' : Ideal.ofBits .f32 0x3A000000#32 = ((1 / 2048 : ℝ) : EReal) := by
    simp [Ideal.ofBits, Ideal.ieee, -EReal.coe_mul]; norm_num
  rw [h, h', Ideal.div, if_neg (by norm_num), ← EReal.coe_inv, one_div]

theorem div_768 (x : EReal) : Ideal.div x (Ideal.ofBits .f32 0x44400000#32) = x * ((1 / 768 : ℝ) : EReal) := by
  have h : Ideal.ofBits .f32 0x44400000#32 = ((768 : ℝ) : EReal) := by
    simp [Ideal.ofBits, Ideal.ieee, -EReal.coe_mul]; norm_num
  rw [h, Ideal.div, if_neg (by norm_num), ← EReal.coe_inv, one_div]

end Cert.Quant

end

end
-- ==== Proof.Value.RefProd.lean ====
/-
The reference's product, read at an index.
-/
module

public import proofs.«01_k».proof.Proof.Value.RefGroup
public import proofs.«01_k».proof.Proof.Value.Normed

@[expose] public section

set_option maxRecDepth 16384

noncomputable section

namespace Cert.ReferenceIdeal.Body

open Cert.ReferenceIdeal.Gen
open Idealize.ShloMosaic Idealize.ShloMosaic.TcCoe Idealize.ShloMosaic.Tactic
open Cert.Exponent
open scoped BigOperators

open Cert.Quant

/-- The activations multiplied out, from codes and scales. -/
def xAll (q : FVec Ideal S256x128x128 .bf16) (s : FVec Ideal S256x128x1 .bf16) : FVec Ideal S256x16384 .bf16 :=
  shapeCast S256x16384 (mulf q (broadcastTo S256x128x128 s broadcasts_S256x128x1_S256x128x128)) shapeCasts_S256x128x128_S256x16384

/-- Rows 0 to 2815 of the weights multiplied out. -/
def wHi (w : Vec Ideal S2880x16384 .fp8e4m3) (s : Vec Ideal S23x128 .f32) : FVec Ideal S2816x16384 .bf16 :=
  shapeCast S2816x16384 (mulf
    (shapeCast S22x128x128x128 (extf (F := Ideal) .bf16 (extractStridedSlice S2816x16384 ![0, 0] w slices_S2880x16384_o0_0_S2816x16384) bitsLt_fp8e4m3_bf16) shapeCasts_S2816x16384_S22x128x128x128)
    (broadcastTo S22x128x128x128 (shapeCast S22x1x128x1 (extractStridedSlice S22x128 ![0, 0] (truncf (F := Ideal) .bf16 s bitsLt_bf16_f32) slices_S23x128_o0_0_S22x128) shapeCasts_S22x128_S22x1x128x1) broadcasts_S22x1x128x1_S22x128x128x128))
    shapeCasts_S22x128x128x128_S2816x16384

/-- Rows 2816 to 2879 of the weights multiplied out. -/
def wLo (w : Vec Ideal S2880x16384 .fp8e4m3) (s : Vec Ideal S23x128 .f32) : FVec Ideal S64x16384 .bf16 :=
  shapeCast S64x16384 (mulf
    (shapeCast S64x128x128 (extf (F := Ideal) .bf16 (extractStridedSlice S64x16384 ![2816, 0] w slices_S2880x16384_o2816_0_S64x16384) bitsLt_fp8e4m3_bf16) shapeCasts_S64x16384_S64x128x128)
    (broadcastTo S64x128x128 (shapeCast S1x128x1 (shapeCast S128 (extractStridedSlice S1x128 ![22, 0] (truncf (F := Ideal) .bf16 s bitsLt_bf16_f32) slices_S23x128_o22_0_S1x128) shapeCasts_S1x128_S128) shapeCasts_S128_S1x128x1) broadcasts_S1x128x1_S64x128x128))
    shapeCasts_S64x128x128_S64x16384

/-- The product, of the factors multiplied out. -/
def dotHi (a : FVec Ideal S256x16384 .bf16) (b : FVec Ideal S2816x16384 .bf16) : FVec Ideal S256x2816 .f32 :=
  matmul dot_S256x16384_S2816x16384_S256x2816_1_1_0_0_n_n none a b (constant S256x2816 .f32 0x00000000#32)
def dotLo (a : FVec Ideal S256x16384 .bf16) (b : FVec Ideal S64x16384 .bf16) : FVec Ideal S256x64 .f32 :=
  matmul dot_S256x16384_S64x16384_S256x64_1_1_0_0_n_n none a b (constant S256x64 .f32 0x00000000#32)
/-- The two side by side. -/
def both (a : FVec Ideal S256x2816 .f32) (b : FVec Ideal S256x64 .f32) : FVec Ideal S256x2880 .f32 :=
  concatenate S256x2880 1 [⟨S256x2816, a⟩, ⟨S256x64, b⟩] concatenates_S256x2816_S256x64_S256x2880_d1

theorem pay10_eq (w : Vec Ideal S2880x16384 .fp8e4m3) (s : Vec Ideal S23x128 .f32) (q : FVec Ideal S256x128x128 .bf16) (e : FVec Ideal S256x128x1 .bf16) :
    k0_pay10 w s q e = both (dotHi (xAll q e) (wHi w s)) (dotLo (xAll q e) (wLo w s)) := rfl

theorem xAll_apply (q : FVec Ideal S256x128x128 .bf16) (s : FVec Ideal S256x128x1 .bf16) (i : Fin 256) (K : Fin 16384) :
    xAll q s (ix2 i K) = q (ix3 i ⟨K.val / 128, by omega⟩ ⟨K.val % 128, by omega⟩) * s (ix3 i ⟨K.val / 128, by omega⟩ 0) := by
  pointwise [xAll]

theorem wHi_apply (w : Vec Ideal S2880x16384 .fp8e4m3) (s : Vec Ideal S23x128 .f32) (ρ : Fin 2816) (K : Fin 16384) :
    wHi w s (ix2 ρ K) = w (ix2 ⟨ρ.val, by omega⟩ K) * s (ix2 ⟨ρ.val / 128, by omega⟩ ⟨K.val / 128, by omega⟩) := by
  pointwise [wHi]
theorem wLo_apply (w : Vec Ideal S2880x16384 .fp8e4m3) (s : Vec Ideal S23x128 .f32) (ρ : Fin 64) (K : Fin 16384) :
    wLo w s (ix2 ρ K) = w (ix2 ⟨2816 + ρ.val, by omega⟩ K) * s (ix2 22 ⟨K.val / 128, by omega⟩) := by
  pointwise [wLo]

theorem dotHi_apply (a : FVec Ideal S256x16384 .bf16) (b : FVec Ideal S2816x16384 .bf16) (i : Fin 256) (ρ : Fin 2816) :
    dotHi a b (ix2 i ρ) = ∑ K : Fin 16384, a (ix2 i K) * b (ix2 ρ K) := by
  pointwise [dotHi]
  try simp only [zero_add]
theorem dotLo_apply (a : FVec Ideal S256x16384 .bf16) (b : FVec Ideal S64x16384 .bf16) (i : Fin 256) (ρ : Fin 64) :
    dotLo a b (ix2 i ρ) = ∑ K : Fin 16384, a (ix2 i K) * b (ix2 ρ K) := by
  pointwise [dotLo]
  try simp only [zero_add]
theorem both_hi (a : FVec Ideal S256x2816 .f32) (b : FVec Ideal S256x64 .f32) (i : Fin 256) (ρ : Fin 2816) : both a b (ix2 i ⟨ρ.val, by omega⟩) = a (ix2 i ρ) := by
  pointwise [both]
theorem both_lo (a : FVec Ideal S256x2816 .f32) (b : FVec Ideal S256x64 .f32) (i : Fin 256) (ρ : Fin 64) : both a b (ix2 i ⟨2816 + ρ.val, by omega⟩) = b (ix2 i ρ) := by
  pointwise [both]

theorem pay8_eq (x : Vec Ideal S256x16384 .bf16) : k0_pay8 x = extf .bf16 (k0_pay6 x) bitsLt_fp8e4m3_bf16 := rfl
theorem pay9_apply (x : Vec Ideal S256x16384 .bf16) (i : Fin 256) (g : Fin 128) : k0_pay9 x (ix3 i g 0) = gscale (grp (rows x) i g) := by
  rw [← pay5_apply]
  have e : k0_pay9 x = shapeCast S256x128x1 (truncf (F := Ideal) .bf16 (k0_pay5 x) bitsLt_bf16_f32) shapeCasts_S256x128_S256x128x1 := rfl
  rw [e]
  generalize k0_pay5 x = y
  pointwise
/-- The reference's product is the product of the weights with the activations. -/
theorem pay10_apply (x : Vec Ideal S256x16384 .bf16) (w : Vec Ideal S2880x16384 .fp8e4m3) (s : Vec Ideal S23x128 .f32) (i : Fin 256) (ρ : Fin 2880) :
    k0_pay10 w s (k0_pay8 x) (k0_pay9 x) (ix2 i ρ) = prod (fun ρ K => w (ix2 ρ K)) (fun a b => s (ix2 a b)) (rows x) ρ i := by
  have hx : ∀ K : Fin 16384, xAll (k0_pay8 x) (k0_pay9 x) (ix2 i K) = xdq (rows x) i K := fun K => by
    rw [xAll_apply, pay9_apply, pay8_eq]
    refine congrArg (· * _) ?_
    exact pay6_apply x i ⟨K.val / 128, by omega⟩ ⟨K.val % 128, by omega⟩
  rw [pay10_eq]
  unfold prod wdq
  by_cases hρ : ρ.val < 2816
  · refine (both_hi _ _ i ⟨ρ.val, hρ⟩).trans ((dotHi_apply _ _ _ _).trans (Finset.sum_congr rfl fun K _ => ?_))
    rw [hx, wHi_apply, mul_comm]
  · have e : ρ = ⟨2816 + (ρ.val - 2816), by omega⟩ := Fin.ext (by show ρ.val = 2816 + (ρ.val - 2816); omega)
    have e' : (⟨ρ.val / 128, by omega⟩ : Fin 23) = 22 := Fin.ext (by show ρ.val / 128 = 22; omega)
    rw [e']
    refine (congrArg (both _ _) (congrArg (ix2 i) e)).trans ((both_lo _ _ i ⟨ρ.val - 2816, by omega⟩).trans ((dotLo_apply _ _ _ _).trans (Finset.sum_congr rfl fun K _ => ?_)))
    rw [hx, wLo_apply, mul_comm]
    simp only [← e]

/-- The first normalisation, of a product. -/
def qRow (y : FVec Ideal S256x2880 .f32) (g : Vec Ideal S1x2048 .f32) : FVec Ideal S256x2048 .bf16 :=
  have v63 : FVec Ideal S256x2048 .f32 := extractStridedSlice S256x2048 ![0, 0] y slices_S256x2880_o0_0_S256x2048
  truncf .bf16 (mulf (mulf v63 (broadcastTo S256x2048 (rsqrt (addf (divf (shapeCast S256x1 (multiReduction .add [1] S256 (mulf v63 v63) 0x00000000#32 reduces_S256x2048_S256 (.inl rfl) rfl) shapeCasts_S256_S256x1)
    (broadcast S256x1 (Scalar.ofBits .f32 0x45000000#32))) (broadcast S256x1 (Scalar.ofBits .f32 0x358637BD#32)))) broadcasts_S256x1_S256x2048))
    (broadcastTo S256x2048 (shapeCast S1x2048 g shapeCasts_S1x2048_S1x2048) broadcasts_S1x2048_S256x2048)) bitsLt_bf16_f32

theorem pay11_eq (w : Vec Ideal S2880x16384 .fp8e4m3) (s : Vec Ideal S23x128 .f32) (q : FVec Ideal S256x128x128 .bf16) (e : FVec Ideal S256x128x1 .bf16) (g : Vec Ideal S1x2048 .f32) :
    k0_pay11 w s q e g = qRow (k0_pay10 w s q e) g := rfl

theorem qRow_apply (y : FVec Ideal S256x2880 .f32) (g : Vec Ideal S1x2048 .f32) (i : Fin 256) (j : Fin 2048) :
    qRow y g (ix2 i j) = qOut (fun ρ i => y (ix2 i ρ)) (fun j => g (ix2 0 j)) i j := by
  unfold qOut eps
  rw [← div_2048]
  pointwise [qRow]

/-- The second normalisation, of a product. -/
def kvRow (y : FVec Ideal S256x2880 .f32) (g : Vec Ideal S1x768 .f32) : FVec Ideal S256x768 .bf16 :=
  have v80 : FVec Ideal S256x768 .f32 := extractStridedSlice S256x768 ![0, 2048] y slices_S256x2880_o0_2048_S256x768
  k0_pay1 v80 (k0_pay13 g) (shapeCast S256x1 (multiReduction .add [1] S256 (mulf v80 v80) 0x00000000#32 reduces_S256x768_S256 (.inl rfl) rfl) shapeCasts_S256_S256x1)

theorem pay1_eq (w : Vec Ideal S2880x16384 .fp8e4m3) (s : Vec Ideal S23x128 .f32) (q : FVec Ideal S256x128x128 .bf16) (e : FVec Ideal S256x128x1 .bf16) (g : Vec Ideal S1x768 .f32) :
    k0_pay1 (k0_pay12 w s q e) (k0_pay13 g) (k0_pay14 w s q e) = kvRow (k0_pay10 w s q e) g := rfl

theorem kvRow_apply (y : FVec Ideal S256x2880 .f32) (g : Vec Ideal S1x768 .f32) (i : Fin 256) (j : Fin 768) :
    kvRow y g (ix2 i j) = kvOut (fun ρ i => y (ix2 i ρ)) (fun j => g (ix2 0 j)) i j := by
  unfold kvOut eps
  rw [← div_768]
  pointwise [kvRow, k0_pay1, k0_pay13]

theorem pay2_apply (y : FVec Ideal S256x2880 .f32) (i : Fin 256) (j : Fin 64) : k0_pay2 y (ix2 i j) = peOut (fun ρ i => y (ix2 i ρ)) i j := by
  unfold peOut
  pointwise [k0_pay2]

theorem pay7_apply (x : Vec Ideal S256x16384 .bf16) (i : Fin 256) (K : Fin 16384) :
    k0_pay7 x (ix2 i K) = gcode (grp (rows x) i ⟨K.val / 128, by omega⟩) ⟨K.val % 128, by omega⟩ := by
  rw [← pay6_apply]
  have e : k0_pay7 x = shapeCast S256x16384 (k0_pay6 x) shapeCasts_S256x128x128_S256x16384 := rfl
  rw [e]
  generalize k0_pay6 x = y
  pointwise

end Cert.ReferenceIdeal.Body

end

end
-- ==== Proof.Value.RefFinal.lean ====
/-
The reference's results, at an index.
-/
module

public import proofs.«01_k».proof.Proof.Value.RefProd
public import Idealize.ShloMosaic.Lib.Pipeline.ValueKit

@[expose] public section

set_option maxRecDepth 16384

noncomputable section

namespace Cert.ReferenceIdeal.Body

open Cert.ReferenceIdeal.Gen
open Idealize.ShloMosaic Idealize.ShloMosaic.TcCoe Idealize.ShloMosaic.Tactic
open Cert.Exponent
open scoped BigOperators

open Cert.Quant

/-- The one store of a block that is its whole buffer, read at an index. -/
theorem canon_all {s : Shape} {e : EltTy} (off : Fin s.rank → ℕ) (h : off = fun _ => 0) (inb : ∀ a, off a + s.size a ≤ s.size a)
    (w : (Rect.unit off s.size inb).shape.Idx → Elt Ideal e) (y : s.Idx) :
    View.canon [(⟨Rect.unit off s.size inb, w⟩ : View.Piece (Elt Ideal) s e)] y = w y := by
  subst h
  have hy : (Rect.unit (s := s) (fun _ => 0) s.size inb).emb y = y :=
    Rect.emb_eq_of_coords (Rect.unit (s := s) (fun _ => 0) s.size inb) y y fun a => by show (y a).val = 0 + 1 * (y a).val; omega
  exact (congrArg (View.canon _) hy.symm).trans (View.canon_cons_emb _ w [] y)

theorem off0 : (![0, 0] : Fin 2 → ℕ) = fun _ => 0 := by funext a; fin_cases a <;> rfl

variable (m : (ℓ : Loc nD τ sig) → Buf (Elt Ideal) ℓ) (c : Dev nD)

theorem N1 : cfg0.N = 1 := N_0
/-- The one grid point. -/
abbrev t0 : Fin cfg0.N := ⟨0, lt_of_lt_of_eq (by decide) N_0.symm⟩

/-- The activations, as the grid finds them. -/
def rX : Vec Ideal S256x16384 .bf16 := V m c (Pipeline.arrRef spec0 0)
theorem ld0 (X : Vec Ideal S256x16384 .bf16) : View.ld X r0_0 = X := View.ld_unit_zero (S := S256x16384) (off := ![0, 0]) off0 _ X
theorem idxW0 : ∀ t : Fin cfg0.N, win0_0.index t (0 : Fin 2) = 0 ∧ win0_0.index t (1 : Fin 2) = 0 :=
  (by decide +kernel : ∀ t : Fin grid0.N, _)
theorem iblk0_eq (t : Fin cfg0.N) : (iblk m c 0 t : Vec Ideal S256x16384 .bf16) = rX m c := by
  obtain ⟨e0, e1⟩ := idxW0 t
  funext y
  show V m c (Pipeline.arrRef spec0 0) (((cfg0.win 0).blk t).view.emb y) = V m c (Pipeline.arrRef spec0 0) _
  have hb0 : (((cfg0.win 0).blk t).view.emb y 0).val = win0_0.index t (0 : Fin 2) * 256 + 1 * (y 0).val := rfl
  have hb1 : (((cfg0.win 0).blk t).view.emb y 1).val = win0_0.index t (1 : Fin 2) * 16384 + 1 * (y 1).val := rfl
  refine congrArg (V m c (Pipeline.arrRef spec0 0)) (funext fun a => Fin.ext ?_)
  match a with
  | ⟨0, _⟩ => show (((cfg0.win 0).blk t).view.emb y 0).val = (y 0).val; rw [hb0, e0]; omega
  | ⟨1, _⟩ => show (((cfg0.win 0).blk t).view.emb y 1).val = (y 1).val; rw [hb1, e1]; omega

/-- The weights, as the grid finds them. -/
def rW : Vec Ideal S2880x16384 .fp8e4m3 := V m c (Pipeline.arrRef spec0 1)
theorem ld1 (X : Vec Ideal S2880x16384 .fp8e4m3) : View.ld X r0_1 = X := View.ld_unit_zero (S := S2880x16384) (off := ![0, 0]) off0 _ X
theorem idxW1 : ∀ t : Fin cfg0.N, win0_1.index t (0 : Fin 2) = 0 ∧ win0_1.index t (1 : Fin 2) = 0 :=
  (by decide +kernel : ∀ t : Fin grid0.N, _)
theorem iblk1_eq (t : Fin cfg0.N) : (iblk m c 1 t : Vec Ideal S2880x16384 .fp8e4m3) = rW m c := by
  obtain ⟨e0, e1⟩ := idxW1 t
  funext y
  show V m c (Pipeline.arrRef spec0 1) (((cfg0.win 1).blk t).view.emb y) = V m c (Pipeline.arrRef spec0 1) _
  have hb0 : (((cfg0.win 1).blk t).view.emb y 0).val = win0_1.index t (0 : Fin 2) * 2880 + 1 * (y 0).val := rfl
  have hb1 : (((cfg0.win 1).blk t).view.emb y 1).val = win0_1.index t (1 : Fin 2) * 16384 + 1 * (y 1).val := rfl
  refine congrArg (V m c (Pipeline.arrRef spec0 1)) (funext fun a => Fin.ext ?_)
  match a with
  | ⟨0, _⟩ => show (((cfg0.win 1).blk t).view.emb y 0).val = (y 0).val; rw [hb0, e0]; omega
  | ⟨1, _⟩ => show (((cfg0.win 1).blk t).view.emb y 1).val = (y 1).val; rw [hb1, e1]; omega

/-- The weights' scales, as the grid finds them. -/
def rS : Vec Ideal S23x128 .f32 := V m c (Pipeline.arrRef spec0 2)
theorem ld2 (X : Vec Ideal S23x128 .f32) : View.ld X r0_2 = X := View.ld_unit_zero (S := S23x128) (off := ![0, 0]) off0 _ X
theorem idxW2 : ∀ t : Fin cfg0.N, win0_2.index t (0 : Fin 2) = 0 ∧ win0_2.index t (1 : Fin 2) = 0 :=
  (by decide +kernel : ∀ t : Fin grid0.N, _)
theorem iblk2_eq (t : Fin cfg0.N) : (iblk m c 2 t : Vec Ideal S23x128 .f32) = rS m c := by
  obtain ⟨e0, e1⟩ := idxW2 t
  funext y
  show V m c (Pipeline.arrRef spec0 2) (((cfg0.win 2).blk t).view.emb y) = V m c (Pipeline.arrRef spec0 2) _
  have hb0 : (((cfg0.win 2).blk t).view.emb y 0).val = win0_2.index t (0 : Fin 2) * 23 + 1 * (y 0).val := rfl
  have hb1 : (((cfg0.win 2).blk t).view.emb y 1).val = win0_2.index t (1 : Fin 2) * 128 + 1 * (y 1).val := rfl
  refine congrArg (V m c (Pipeline.arrRef spec0 2)) (funext fun a => Fin.ext ?_)
  match a with
  | ⟨0, _⟩ => show (((cfg0.win 2).blk t).view.emb y 0).val = (y 0).val; rw [hb0, e0]; omega
  | ⟨1, _⟩ => show (((cfg0.win 2).blk t).view.emb y 1).val = (y 1).val; rw [hb1, e1]; omega

/-- The gains of the first normalisation, as the grid finds them. -/
def rGq : Vec Ideal S1x2048 .f32 := V m c (Pipeline.arrRef spec0 3)
theorem ld3 (X : Vec Ideal S1x2048 .f32) : View.ld X r0_4 = X := View.ld_unit_zero (S := S1x2048) (off := ![0, 0]) off0 _ X
theorem idxW3 : ∀ t : Fin cfg0.N, win0_3.index t (0 : Fin 2) = 0 ∧ win0_3.index t (1 : Fin 2) = 0 :=
  (by decide +kernel : ∀ t : Fin grid0.N, _)
theorem iblk3_eq (t : Fin cfg0.N) : (iblk m c 3 t : Vec Ideal S1x2048 .f32) = rGq m c := by
  obtain ⟨e0, e1⟩ := idxW3 t
  funext y
  show V m c (Pipeline.arrRef spec0 3) (((cfg0.win 3).blk t).view.emb y) = V m c (Pipeline.arrRef spec0 3) _
  have hb0 : (((cfg0.win 3).blk t).view.emb y 0).val = win0_3.index t (0 : Fin 2) * 1 + 1 * (y 0).val := rfl
  have hb1 : (((cfg0.win 3).blk t).view.emb y 1).val = win0_3.index t (1 : Fin 2) * 2048 + 1 * (y 1).val := rfl
  refine congrArg (V m c (Pipeline.arrRef spec0 3)) (funext fun a => Fin.ext ?_)
  match a with
  | ⟨0, _⟩ => show (((cfg0.win 3).blk t).view.emb y 0).val = (y 0).val; rw [hb0, e0]; omega
  | ⟨1, _⟩ => show (((cfg0.win 3).blk t).view.emb y 1).val = (y 1).val; rw [hb1, e1]; omega

/-- The gains of the second normalisation, as the grid finds them. -/
def rGkv : Vec Ideal S1x768 .f32 := V m c (Pipeline.arrRef spec0 4)
theorem ld4 (X : Vec Ideal S1x768 .f32) : View.ld X r0_6 = X := View.ld_unit_zero (S := S1x768) (off := ![0, 0]) off0 _ X
theorem idxW4 : ∀ t : Fin cfg0.N, win0_4.index t (0 : Fin 2) = 0 ∧ win0_4.index t (1 : Fin 2) = 0 :=
  (by decide +kernel : ∀ t : Fin grid0.N, _)
theorem iblk4_eq (t : Fin cfg0.N) : (iblk m c 4 t : Vec Ideal S1x768 .f32) = rGkv m c := by
  obtain ⟨e0, e1⟩ := idxW4 t
  funext y
  show V m c (Pipeline.arrRef spec0 4) (((cfg0.win 4).blk t).view.emb y) = V m c (Pipeline.arrRef spec0 4) _
  have hb0 : (((cfg0.win 4).blk t).view.emb y 0).val = win0_4.index t (0 : Fin 2) * 1 + 1 * (y 0).val := rfl
  have hb1 : (((cfg0.win 4).blk t).view.emb y 1).val = win0_4.index t (1 : Fin 2) * 768 + 1 * (y 1).val := rfl
  refine congrArg (V m c (Pipeline.arrRef spec0 4)) (funext fun a => Fin.ext ?_)
  match a with
  | ⟨0, _⟩ => show (((cfg0.win 4).blk t).view.emb y 0).val = (y 0).val; rw [hb0, e0]; omega
  | ⟨1, _⟩ => show (((cfg0.win 4).blk t).view.emb y 1).val = (y 1).val; rw [hb1, e1]; omega

/-- The product, of the arrays that the grid finds. -/
abbrev rP : Fin 2880 → Fin 256 → EReal := prod (fun ρ K => rW m c (ix2 ρ K)) (fun a b => rS m c (ix2 a b)) (rows (rX m c))

theorem rowP (i : Fin 256) (ρ : Fin 2880) : k0_pay10 (rW m c) (rS m c) (k0_pay8 (rX m c)) (k0_pay9 (rX m c)) (ix2 i ρ) = rP m c ρ i := pay10_apply _ _ _ i ρ

theorem resP : (fun (ρ : Fin 2880) (i : Fin 256) => k0_pay10 (rW m c) (rS m c) (k0_pay8 (rX m c)) (k0_pay9 (rX m c)) (ix2 i ρ)) = rP m c :=
  funext fun ρ => funext fun i => rowP m c i ρ

theorem can5 (p : Vec Ideal S256x2048 .bf16) : View.canon [(⟨r0_5, p⟩ : View.Piece (Elt Ideal) S256x2048 .bf16)] = p :=
  funext fun y => canon_all (s := S256x2048) (e := .bf16) ![0, 0] off0 inb_S256x2048_S256x2048_0_0 p y
theorem out5_eq (x0 : Vec Ideal S256x16384 .bf16) (x1 : Vec Ideal S2880x16384 .fp8e4m3) (x2 : Vec Ideal S23x128 .f32) (x3 : Vec Ideal S1x2048 .f32) (x4 : Vec Ideal S1x768 .f32) :
    out0_5 x0 x1 x2 x3 x4 = k0_pay11 x1 x2 (k0_pay8 x0) (k0_pay9 x0) x3 := by
  unfold out0_5 k0_pay15 k0_pay16
  rw [ld0, ld1, ld2, ld3]
  exact can5 _
theorem res5 (i : Fin 256) (j : Fin 2048) : ((dats m 0 c).arrAt 5 cfg0.N : S256x2048.Idx → EReal) (ix2 i j) = qOut (rP m c) (fun j => rGq m c (ix2 0 j)) i j := by
  refine ((dats m 0 c).arrAt_emb_eq_after_last 5 t0 (by decide +kernel) (ix2 i j)).trans ?_
  have e := after0_5 m c t0
  rw [iblk0_eq, iblk1_eq, iblk2_eq, iblk3_eq, iblk4_eq, out5_eq] at e
  refine (congrFun e (ix2 i j)).trans ?_
  rw [pay11_eq, qRow_apply, resP]

theorem can6 (p : Vec Ideal S256x768 .bf16) : View.canon [(⟨r0_7, p⟩ : View.Piece (Elt Ideal) S256x768 .bf16)] = p :=
  funext fun y => canon_all (s := S256x768) (e := .bf16) ![0, 0] off0 inb_S256x768_S256x768_0_0 p y
theorem out6_eq (x0 : Vec Ideal S256x16384 .bf16) (x1 : Vec Ideal S2880x16384 .fp8e4m3) (x2 : Vec Ideal S23x128 .f32) (x3 : Vec Ideal S1x2048 .f32) (x4 : Vec Ideal S1x768 .f32) :
    out0_6 x0 x1 x2 x3 x4 = k0_pay1 (k0_pay12 x1 x2 (k0_pay8 x0) (k0_pay9 x0)) (k0_pay13 x4) (k0_pay14 x1 x2 (k0_pay8 x0) (k0_pay9 x0)) := by
  unfold out0_6 k0_pay15 k0_pay16
  rw [ld0, ld1, ld2, ld4]
  exact can6 _
theorem res6 (i : Fin 256) (j : Fin 768) : ((dats m 0 c).arrAt 6 cfg0.N : S256x768.Idx → EReal) (ix2 i j) = kvOut (rP m c) (fun j => rGkv m c (ix2 0 j)) i j := by
  refine ((dats m 0 c).arrAt_emb_eq_after_last 6 t0 (by decide +kernel) (ix2 i j)).trans ?_
  have e := after0_6 m c t0
  rw [iblk0_eq, iblk1_eq, iblk2_eq, iblk3_eq, iblk4_eq, out6_eq] at e
  refine (congrFun e (ix2 i j)).trans ?_
  rw [pay1_eq, kvRow_apply, resP]

theorem can7 (p : Vec Ideal S256x64 .bf16) : View.canon [(⟨r0_8, p⟩ : View.Piece (Elt Ideal) S256x64 .bf16)] = p :=
  funext fun y => canon_all (s := S256x64) (e := .bf16) ![0, 0] off0 inb_S256x64_S256x64_0_0 p y
theorem out7_eq (x0 : Vec Ideal S256x16384 .bf16) (x1 : Vec Ideal S2880x16384 .fp8e4m3) (x2 : Vec Ideal S23x128 .f32) (x3 : Vec Ideal S1x2048 .f32) (x4 : Vec Ideal S1x768 .f32) :
    out0_7 x0 x1 x2 x3 x4 = k0_pay2 (k0_pay10 x1 x2 (k0_pay8 x0) (k0_pay9 x0)) := by
  unfold out0_7 k0_pay15 k0_pay16
  rw [ld0, ld1, ld2]
  exact can7 _
theorem res7 (i : Fin 256) (j : Fin 64) : ((dats m 0 c).arrAt 7 cfg0.N : S256x64.Idx → EReal) (ix2 i j) = peOut (rP m c) i j := by
  refine ((dats m 0 c).arrAt_emb_eq_after_last 7 t0 (by decide +kernel) (ix2 i j)).trans ?_
  have e := after0_7 m c t0
  rw [iblk0_eq, iblk1_eq, iblk2_eq, iblk3_eq, iblk4_eq, out7_eq] at e
  refine (congrFun e (ix2 i j)).trans ?_
  rw [pay2_apply, resP]

theorem can8 (p : Vec Ideal S256x16384 .fp8e4m3) : View.canon [(⟨r0_0, p⟩ : View.Piece (Elt Ideal) S256x16384 .fp8e4m3)] = p :=
  funext fun y => canon_all (s := S256x16384) (e := .fp8e4m3) ![0, 0] off0 inb_S256x16384_S256x16384_0_0 p y
theorem out8_eq (x0 : Vec Ideal S256x16384 .bf16) (x1 : Vec Ideal S2880x16384 .fp8e4m3) (x2 : Vec Ideal S23x128 .f32) (x3 : Vec Ideal S1x2048 .f32) (x4 : Vec Ideal S1x768 .f32) :
    out0_8 x0 x1 x2 x3 x4 = k0_pay7 x0 := by
  unfold out0_8
  rw [ld0]
  exact can8 _
theorem res8 (i : Fin 256) (j : Fin 16384) : ((dats m 0 c).arrAt 8 cfg0.N : S256x16384.Idx → EReal) (ix2 i j) = gcode (grp (rows (rX m c)) i ⟨j.val / 128, by omega⟩) ⟨j.val % 128, by omega⟩ := by
  refine ((dats m 0 c).arrAt_emb_eq_after_last 8 t0 (by decide +kernel) (ix2 i j)).trans ?_
  have e := after0_8 m c t0
  rw [iblk0_eq, iblk1_eq, iblk2_eq, iblk3_eq, iblk4_eq, out8_eq] at e
  refine (congrFun e (ix2 i j)).trans ?_
  rw [pay7_apply]

theorem can9 (p : Vec Ideal S256x128 .f32) : View.canon [(⟨r0_3, p⟩ : View.Piece (Elt Ideal) S256x128 .f32)] = p :=
  funext fun y => canon_all (s := S256x128) (e := .f32) ![0, 0] off0 inb_S256x128_S256x128_0_0 p y
theorem out9_eq (x0 : Vec Ideal S256x16384 .bf16) (x1 : Vec Ideal S2880x16384 .fp8e4m3) (x2 : Vec Ideal S23x128 .f32) (x3 : Vec Ideal S1x2048 .f32) (x4 : Vec Ideal S1x768 .f32) :
    out0_9 x0 x1 x2 x3 x4 = k0_pay5 x0 := by
  unfold out0_9
  rw [ld0]
  exact can9 _
theorem res9 (i : Fin 256) (j : Fin 128) : ((dats m 0 c).arrAt 9 cfg0.N : S256x128.Idx → EReal) (ix2 i j) = gscale (grp (rows (rX m c)) i j) := by
  refine ((dats m 0 c).arrAt_emb_eq_after_last 9 t0 (by decide +kernel) (ix2 i j)).trans ?_
  have e := after0_9 m c t0
  rw [iblk0_eq, iblk1_eq, iblk2_eq, iblk3_eq, iblk4_eq, out9_eq] at e
  refine (congrFun e (ix2 i j)).trans ?_
  rw [pay5_apply]

end Cert.ReferenceIdeal.Body

end

end
-- ==== Proof.Value.Arrays.lean ====
/-
The arrays that the two programs find are the same reshapes of their arguments, and the precondition bounds every group.
-/
module

public import proofs.«01_k».proof.Proof.Value.Chunk
public import proofs.«01_k».proof.Proof.Value.RefFinal
public import proofs.«01_k».proof.Proof.Gen.Pre_in_range
public import proofs.«01_k».proof.Defs

@[expose] public section

set_option maxRecDepth 16384

noncomputable section

open Idealize.ShloMosaic Idealize.ShloMosaic.TcCoe Idealize.ShloMosaic.Tactic
open Cert.Quant Cert.Exponent
open scoped BigOperators

namespace Cert.KernelIdeal.Body

open Cert.KernelIdeal.Gen

variable (m : (ℓ : Loc nD τ sig) → Buf (Elt Ideal) ℓ) (c : Dev nD)

/-- The activations that the grid finds: the first argument, its leading axis of size one dropped. -/
theorem arrX_eq : arrX m c = shapeCast S256x16384 (m ((c : Thread nD τ).loc main_arg0)) shapeCasts_S1x256x16384_S256x16384 := by
  show StableHlo.after hostOps0 _ (Proc.devRef .tc main_v0) = _
  after_results
  rfl
/-- The weights that the grid finds: the second argument. -/
theorem arrW_eq : arrW m c = m ((c : Thread nD τ).loc main_arg1) := V_main_arg1 m c
/-- The tile scales that the grid finds: the third argument. -/
theorem arrS_eq : arrS m c = m ((c : Thread nD τ).loc main_arg2) := V_main_arg2 m c
/-- The first gain that the grid finds: the fourth argument, as a row. -/
theorem arrGq_eq : arrGq m c = shapeCast S1x2048 (m ((c : Thread nD τ).loc main_arg3)) shapeCasts_S2048_S1x2048 := by
  show StableHlo.after hostOps0 _ (Proc.devRef .tc main_v1) = _
  after_results
  rfl
/-- The second gain that the grid finds: the fifth argument, as a row. -/
theorem arrGkv_eq : arrGkv m c = shapeCast S1x768 (m ((c : Thread nD τ).loc main_arg4)) shapeCasts_S768_S1x768 := by
  show StableHlo.after hostOps0 _ (Proc.devRef .tc main_v2) = _
  after_results
  rfl

end Cert.KernelIdeal.Body

namespace Cert.ReferenceIdeal.Body

open Cert.ReferenceIdeal.Gen

variable (m : (ℓ : Loc nD τ sig) → Buf (Elt Ideal) ℓ) (c : Dev nD)

/-- The activations that the grid finds: the first argument, its leading axis of size one dropped. -/
theorem rX_eq : rX m c = shapeCast S256x16384 (m ((c : Thread nD τ).loc main_arg0)) shapeCasts_S1x256x16384_S256x16384 := by
  show StableHlo.after hostOps0 _ (Proc.devRef .tc main_v0) = _
  after_results
  rfl
/-- The weights that the grid finds: the second argument. -/
theorem rW_eq : rW m c = m ((c : Thread nD τ).loc main_arg1) := V_main_arg1 m c
/-- The tile scales that the grid finds: the third argument. -/
theorem rS_eq : rS m c = m ((c : Thread nD τ).loc main_arg2) := V_main_arg2 m c
/-- The first gain that the grid finds: the fourth argument, as a row. -/
theorem rGq_eq : rGq m c = shapeCast S1x2048 (m ((c : Thread nD τ).loc main_arg3)) shapeCasts_S2048_S1x2048 := by
  show StableHlo.after hostOps0 _ (Proc.devRef .tc main_v1) = _
  after_results
  rfl
/-- The second gain that the grid finds: the fifth argument, as a row. -/
theorem rGkv_eq : rGkv m c = shapeCast S1x768 (m ((c : Thread nD τ).loc main_arg4)) shapeCasts_S768_S1x768 := by
  show StableHlo.after hostOps0 _ (Proc.devRef .tc main_v2) = _
  after_results
  rfl

end Cert.ReferenceIdeal.Body

namespace Cert.Match

/-- The largest magnitude that the precondition's reduction finds of a group. -/
theorem pre_amax (x : FVec Ideal Cert.Pre_in_range.S1x256x16384 .bf16) (r : Fin 256) (g : Fin 128)
    (h₁ : Cert.Pre_in_range.S1x256x16384.ShapeCasts Cert.Pre_in_range.S256x128x128)
    (h₂ : Cert.Pre_in_range.S256x128x128.ReducesTo [2] Cert.Pre_in_range.S256x128) (h₃ : 0 < Cert.Pre_in_range.S_.numel)
    (h₄ : FTy.bits .bf16 < FTy.bits .f32) :
    Host.reduce FloatOps.maximumf (Host.absf (shapeCast Cert.Pre_in_range.S256x128x128 (extf .f32 x h₄) h₁))
      (constant (F := Ideal) Cert.Pre_in_range.S_ .f32 0xFF800000#32) h₂ h₃ (ix2 r g)
      = amax fun k : Fin 128 => x (ix3 0 r ⟨g.val * 128 + k.val, by omega⟩) := by
  pointwise
  rfl

/-- A disjunction of bits that is one has a side that is one. -/
theorem ori_one : ∀ {a b : BitVec 1}, IntOp.ori a b = 1#1 → a = 1#1 ∨ b = 1#1 := by decide
/-- A conjunction of bits that is one has both sides one. -/
theorem andi_one : ∀ {a b : BitVec 1}, IntOp.andi a b = 1#1 → a = 1#1 ∧ b = 1#1 := by decide
/-- A comparison whose bit is one holds. -/
theorem of_bit {p : Prop} [Decidable p] (h : BitVec.ofBool (decide p) = 1#1) : p := by
  by_contra hp
  rw [decide_eq_false hp] at h
  exact absurd h (by decide)

/-- Where the cast that drops the leading axis of size one reads. -/
theorem cast_apply {α : Type} (x : Cert.KernelIdeal.S1x256x16384.Idx → α) (h : Cert.KernelIdeal.S1x256x16384.ShapeCasts Cert.KernelIdeal.S256x16384)
    (r : Fin 256) (K : Fin 16384) : shapeCast Cert.KernelIdeal.S256x16384 x h (ix2 r K) = x (ix3 0 r K) := by
  pointwise

/-- What the precondition's comparisons say of one magnitude. -/
theorem inRange_of_bits (a : EReal)
    (e : IntOp.ori (Ideal.cmp .oeq a (Ideal.ofBits .f32 0x00000000#32))
      (IntOp.andi (Ideal.cmp .oge a (Ideal.ofBits .f32 0x04800000#32)) (Ideal.cmp .ole a (Ideal.ofBits .f32 0x7F7F0000#32))) = 1#1) : InRange a := by
  rcases ori_one e with e | e
  · exact .inl ((of_bit e).trans Ideal.ofBits_zero_f32)
  · obtain ⟨e₁, e₂⟩ := andi_one e
    exact .inr ⟨of_bit e₁, of_bit e₂⟩

/-- The precondition at an index, in any arithmetic. -/
theorem fn_apply {F : FTy → Type} [FloatOps F] (x : FVec F Cert.Pre_in_range.S1x256x16384 .bf16) (w : FVec F Cert.Pre_in_range.S2880x16384 .fp8e4m3)
    (s : FVec F Cert.Pre_in_range.S23x128 .f32) (g₁ : FVec F Cert.Pre_in_range.S2048 .f32) (g₂ : FVec F Cert.Pre_in_range.S768 .f32)
    (j : Cert.Pre_in_range.S256x128.Idx) (v : F .f32)
    (hv : Host.reduce FloatOps.maximumf (Host.absf (shapeCast Cert.Pre_in_range.S256x128x128 (extf .f32 x Cert.Pre_in_range.Facts.bitsLt_bf16_f32)
        Cert.Pre_in_range.Facts.shapeCasts_S1x256x16384_S256x128x128))
      (constant (F := F) Cert.Pre_in_range.S_ .f32 0xFF800000#32) Cert.Pre_in_range.Facts.reducesTo_S256x128x128_S256x128_d2 Cert.Pre_in_range.Facts.h_S_ j = v) :
    Cert.Pre_in_range.fn x w s g₁ g₂ j
      = IntOp.ori (FloatOps.cmpf .oeq v (FloatOps.ofBits .f32 0x00000000#32))
        (IntOp.andi (FloatOps.cmpf .oge v (FloatOps.ofBits .f32 0x04800000#32)) (FloatOps.cmpf .ole v (FloatOps.ofBits .f32 0x7F7F0000#32))) := by
  subst hv
  rfl

/-- The precondition at a group. -/
theorem pre_apply (x : FVec Ideal Cert.Pre_in_range.S1x256x16384 .bf16) (w : FVec Ideal Cert.Pre_in_range.S2880x16384 .fp8e4m3)
    (s : FVec Ideal Cert.Pre_in_range.S23x128 .f32) (g₁ : FVec Ideal Cert.Pre_in_range.S2048 .f32) (g₂ : FVec Ideal Cert.Pre_in_range.S768 .f32)
    (r : Fin 256) (g : Fin 128) :
    Cert.Pre_in_range.fn x w s g₁ g₂ (ix2 r g)
      = IntOp.ori (Ideal.cmp .oeq (amax fun k : Fin 128 => x (ix3 0 r ⟨g.val * 128 + k.val, by omega⟩)) (Ideal.ofBits .f32 0x00000000#32))
        (IntOp.andi (Ideal.cmp .oge (amax fun k : Fin 128 => x (ix3 0 r ⟨g.val * 128 + k.val, by omega⟩)) (Ideal.ofBits .f32 0x04800000#32))
          (Ideal.cmp .ole (amax fun k : Fin 128 => x (ix3 0 r ⟨g.val * 128 + k.val, by omega⟩)) (Ideal.ofBits .f32 0x7F7F0000#32))) := by
  refine (fn_apply x w s g₁ g₂ (ix2 r g) _ (pre_amax x r g _ _ _ _)).trans ?_
  generalize (amax fun k : Fin 128 => x (ix3 0 r ⟨g.val * 128 + k.val, by omega⟩)) = v
  rfl

/-- A group of the activations that the kernel's grid finds, in the argument. -/
theorem grp_fX (m : (ℓ : Loc Cert.KernelIdeal.nD Cert.KernelIdeal.τ Cert.KernelIdeal.sig) → Buf (Elt Ideal) ℓ) (c : Dev Cert.KernelIdeal.nD)
    (x : Cert.KernelIdeal.S1x256x16384.Idx → EReal) (hx : m ((c : Thread Cert.KernelIdeal.nD Cert.KernelIdeal.τ).loc Cert.KernelIdeal.main_arg0) = x)
    (r : Fin 256) (g : Fin 128) :
    grp (Cert.KernelIdeal.Body.fX m c) r g = fun k : Fin 128 => x (ix3 0 r ⟨g.val * 128 + k.val, by omega⟩) := by
  subst hx
  funext k
  unfold grp Cert.KernelIdeal.Body.fX
  rw [Cert.KernelIdeal.Body.arrX_eq]
  exact cast_apply _ _ r _

/-- The precondition says of every group that its largest magnitude is in range. -/
theorem ranged (m : (ℓ : Loc Cert.KernelIdeal.nD Cert.KernelIdeal.τ Cert.KernelIdeal.sig) → Buf (Elt Ideal) ℓ)
    (h : Cert.Pre_KernelIdeal_in_range m) (c : Dev Cert.KernelIdeal.nD) : Cert.KernelIdeal.Body.Ranged m c := by
  intro r g
  rw [grp_fX m c _ rfl]
  refine inRange_of_bits _ ?_
  rw [← pre_apply]
  exact congrFun (h c) (ix2 r g)

end Cert.Match

end

end
-- ==== Proof.Body.Data.lean ====
/-
What the buffers hold after each grid point, and the proof data of the pipeline that says so.
-/
module

public import proofs.«01_k».proof.Proof.Body.Points

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the buffers hold after a point -/

/-- The accumulator after point `t`, if it held `acc` before it. -/
def accStep (c : Dev nD) (t : Fin cfg0.N) (acc : Vec F S2880x256 .f32) : Vec F S2880x256 .f32 :=
  if h0 : t.val % 16 = 0 then
    if h1 : t.val % 16 = 15 then acc
    else VS0_0.read (Elt F) (VS0_0.writes (Elt F) VS0_0.junk (firstAt m c t h0 h1).2.2.2.2.2.1)
  else
    if h1 : t.val % 16 = 15 then VS0_0.read (Elt F) (VS0_0.writes (Elt F) VS0_0.junk (lastAt m c t h0 h1 acc).2.2.2.2.2.1)
    else VS0_0.read (Elt F) (VS0_0.writes (Elt F) VS0_0.junk (midAt m c t h0 h1 acc).2.2.2.2.2.1)

/-- The accumulator before point `n`: at the first point a placeholder, for the body zeroes it there. -/
def accBefore (c : Dev nD) : (n : ℕ) → n ≤ cfg0.N → Vec F S2880x256 .f32
  | 0, _ => VS0_0.read (Elt F) VS0_0.junk
  | n + 1, hn => accStep m c ⟨n, hn⟩ (accBefore c n (Nat.le_of_succ_le hn))

/-- The accumulator before point `t`. -/
abbrev accAt (c : Dev nD) (t : Fin cfg0.N) : Vec F S2880x256 .f32 := accBefore m c t.val (Nat.le_of_lt t.isLt)

/-- The codes block the body leaves at point `t`. -/
def codesAt (c : Dev nD) (t : Fin cfg0.N) : Vec F S256x1024 .fp8e4m3 :=
  if h0 : t.val % 16 = 0 then
    if h1 : t.val % 16 = 15 then VO0_8.read (Elt F) VO0_8.junk
    else VO0_8.read (Elt F) (VO0_8.writes (Elt F) VO0_8.junk (firstAt m c t h0 h1).2.2.2.1)
  else
    if h1 : t.val % 16 = 15 then VO0_8.read (Elt F) (VO0_8.writes (Elt F) VO0_8.junk (lastAt m c t h0 h1 (accAt m c t)).2.2.2.1)
    else VO0_8.read (Elt F) (VO0_8.writes (Elt F) VO0_8.junk (midAt m c t h0 h1 (accAt m c t)).2.2.2.1)

/-- The scale block the body leaves at point `t`, if it found `X` there. -/
def scalesAt (c : Dev nD) (t : Fin cfg0.N) (X : Vec F S256x128 .f32) : Vec F S256x128 .f32 :=
  if h0 : t.val % 16 = 0 then
    if h1 : t.val % 16 = 15 then X
    else VO0_9.read (Elt F) (VO0_9.writes (Elt F) VO0_9.junk ((firstAt m c t h0 h1).2.2.2.2.1 X))
  else
    if h1 : t.val % 16 = 15 then VO0_9.read (Elt F) (VO0_9.writes (Elt F) VO0_9.junk ((lastAt m c t h0 h1 (accAt m c t)).2.2.2.2.1 X))
    else VO0_9.read (Elt F) (VO0_9.writes (Elt F) VO0_9.junk ((midAt m c t h0 h1 (accAt m c t)).2.2.2.2.1 X))

/-- The block of result 1 the body leaves at the last point (a placeholder elsewhere). -/
def qAt (c : Dev nD) (t : Fin cfg0.N) : Vec F S256x2048 .bf16 :=
  if h0 : t.val % 16 = 0 then VO0_5.read (Elt F) VO0_5.junk
  else
    if h1 : t.val % 16 = 15 then VO0_5.read (Elt F) (VO0_5.writes (Elt F) VO0_5.junk (lastAt m c t h0 h1 (accAt m c t)).1)
    else VO0_5.read (Elt F) VO0_5.junk

/-- The block of result 2 the body leaves at the last point (a placeholder elsewhere). -/
def kvAt (c : Dev nD) (t : Fin cfg0.N) : Vec F S256x768 .bf16 :=
  if h0 : t.val % 16 = 0 then VO0_6.read (Elt F) VO0_6.junk
  else
    if h1 : t.val % 16 = 15 then VO0_6.read (Elt F) (VO0_6.writes (Elt F) VO0_6.junk (lastAt m c t h0 h1 (accAt m c t)).2.1)
    else VO0_6.read (Elt F) VO0_6.junk

/-- The block of result 3 the body leaves at the last point (a placeholder elsewhere). -/
def peAt (c : Dev nD) (t : Fin cfg0.N) : Vec F S256x64 .bf16 :=
  if h0 : t.val % 16 = 0 then VO0_7.read (Elt F) VO0_7.junk
  else
    if h1 : t.val % 16 = 15 then VO0_7.read (Elt F) (VO0_7.writes (Elt F) VO0_7.junk (lastAt m c t h0 h1 (accAt m c t)).2.2.1)
    else VO0_7.read (Elt F) VO0_7.junk

theorem accStep_first (c : Dev nD) (t : Fin cfg0.N) (acc : Vec F S2880x256 .f32) (h0 : t.val % 16 = 0) (h1 : ¬t.val % 16 = 15) :
    accStep m c t acc = VS0_0.read (Elt F) (VS0_0.writes (Elt F) VS0_0.junk (firstAt m c t h0 h1).2.2.2.2.2.1) := by
  unfold accStep; exact (dif_pos h0).trans (dif_neg h1)
theorem accStep_mid (c : Dev nD) (t : Fin cfg0.N) (acc : Vec F S2880x256 .f32) (h0 : ¬t.val % 16 = 0) (h1 : ¬t.val % 16 = 15) :
    accStep m c t acc = VS0_0.read (Elt F) (VS0_0.writes (Elt F) VS0_0.junk (midAt m c t h0 h1 acc).2.2.2.2.2.1) := by
  unfold accStep; exact (dif_neg h0).trans (dif_neg h1)
theorem accStep_last (c : Dev nD) (t : Fin cfg0.N) (acc : Vec F S2880x256 .f32) (h0 : ¬t.val % 16 = 0) (h1 : t.val % 16 = 15) :
    accStep m c t acc = VS0_0.read (Elt F) (VS0_0.writes (Elt F) VS0_0.junk (lastAt m c t h0 h1 acc).2.2.2.2.2.1) := by
  unfold accStep; exact (dif_neg h0).trans (dif_pos h1)
theorem codesAt_first (c : Dev nD) (t : Fin cfg0.N)  (h0 : t.val % 16 = 0) (h1 : ¬t.val % 16 = 15) :
    codesAt m c t = VO0_8.read (Elt F) (VO0_8.writes (Elt F) VO0_8.junk (firstAt m c t h0 h1).2.2.2.1) := by
  unfold codesAt; exact (dif_pos h0).trans (dif_neg h1)
theorem codesAt_mid (c : Dev nD) (t : Fin cfg0.N)  (h0 : ¬t.val % 16 = 0) (h1 : ¬t.val % 16 = 15) :
    codesAt m c t = VO0_8.read (Elt F) (VO0_8.writes (Elt F) VO0_8.junk (midAt m c t h0 h1 (accAt m c t)).2.2.2.1) := by
  unfold codesAt; exact (dif_neg h0).trans (dif_neg h1)
theorem codesAt_last (c : Dev nD) (t : Fin cfg0.N)  (h0 : ¬t.val % 16 = 0) (h1 : t.val % 16 = 15) :
    codesAt m c t = VO0_8.read (Elt F) (VO0_8.writes (Elt F) VO0_8.junk (lastAt m c t h0 h1 (accAt m c t)).2.2.2.1) := by
  unfold codesAt; exact (dif_neg h0).trans (dif_pos h1)
theorem scalesAt_first (c : Dev nD) (t : Fin cfg0.N) (X : Vec F S256x128 .f32) (h0 : t.val % 16 = 0) (h1 : ¬t.val % 16 = 15) :
    scalesAt m c t X = VO0_9.read (Elt F) (VO0_9.writes (Elt F) VO0_9.junk ((firstAt m c t h0 h1).2.2.2.2.1 X)) := by
  unfold scalesAt; exact (dif_pos h0).trans (dif_neg h1)
theorem scalesAt_mid (c : Dev nD) (t : Fin cfg0.N) (X : Vec F S256x128 .f32) (h0 : ¬t.val % 16 = 0) (h1 : ¬t.val % 16 = 15) :
    scalesAt m c t X = VO0_9.read (Elt F) (VO0_9.writes (Elt F) VO0_9.junk ((midAt m c t h0 h1 (accAt m c t)).2.2.2.2.1 X)) := by
  unfold scalesAt; exact (dif_neg h0).trans (dif_neg h1)
theorem scalesAt_last (c : Dev nD) (t : Fin cfg0.N) (X : Vec F S256x128 .f32) (h0 : ¬t.val % 16 = 0) (h1 : t.val % 16 = 15) :
    scalesAt m c t X = VO0_9.read (Elt F) (VO0_9.writes (Elt F) VO0_9.junk ((lastAt m c t h0 h1 (accAt m c t)).2.2.2.2.1 X)) := by
  unfold scalesAt; exact (dif_neg h0).trans (dif_pos h1)
theorem qAt_last (c : Dev nD) (t : Fin cfg0.N) (h0 : ¬t.val % 16 = 0) (h1 : t.val % 16 = 15) :
    qAt m c t = VO0_5.read (Elt F) (VO0_5.writes (Elt F) VO0_5.junk (lastAt m c t h0 h1 (accAt m c t)).1) := by
  unfold qAt; exact (dif_neg h0).trans (dif_pos h1)
theorem kvAt_last (c : Dev nD) (t : Fin cfg0.N) (h0 : ¬t.val % 16 = 0) (h1 : t.val % 16 = 15) :
    kvAt m c t = VO0_6.read (Elt F) (VO0_6.writes (Elt F) VO0_6.junk (lastAt m c t h0 h1 (accAt m c t)).2.1) := by
  unfold kvAt; exact (dif_neg h0).trans (dif_pos h1)
theorem peAt_last (c : Dev nD) (t : Fin cfg0.N) (h0 : ¬t.val % 16 = 0) (h1 : t.val % 16 = 15) :
    peAt m c t = VO0_7.read (Elt F) (VO0_7.writes (Elt F) VO0_7.junk (lastAt m c t h0 h1 (accAt m c t)).2.2.1) := by
  unfold peAt; exact (dif_neg h0).trans (dif_pos h1)

/-! ## The invariant and the proof data -/

/-- The invariant before point `n`: at first the accumulator and the generator register at anything, later the
    accumulator at what the points before left in it. -/
def inv (c : Dev nD) : (n : ℕ) → n ≤ cfg0.N → sProp 𝕄
  | 0, _ => Pipeline.ΦA spec0 c
  | n + 1, hn => iprop(iprop(owns (c : Thread nD τ) scM0_0 fullShare (accBefore m c (n + 1) hn)) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) scM0_0 fullShare (accStep m c ⟨n, hn⟩ (accBefore m c n (Nat.le_of_lt hn)))) ∗ (∃ r, prngReg c r)) := rfl

theorem inv_pos (c : Dev nD) (n : ℕ) (h : n ≤ cfg0.N) (hz : n ≠ 0) :
    inv m c n h = iprop(iprop(owns (c : Thread nD τ) scM0_0 fullShare (accBefore m c n h)) ∗ (∃ r, prngReg c r)) := by
  cases n with
  | zero => exact absurd rfl hz
  | succ n => rfl

/-- What each window holds after the body, for the windows whose contents are determined; the scale window's entry is
    a placeholder (it is related to what was found there in `rdat`). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => qAt m c t
    | ⟨6, _⟩ => kvAt m c t
    | ⟨7, _⟩ => peAt m c t
    | ⟨8, _⟩ => codesAt m c t
    | ⟨9, _⟩ => VO0_9.read (Elt F) VO0_9.junk
  Φ t := inv m c t.val (Nat.le_of_lt_succ t.isLt)
  q _ := fullShare
  owed _ := 0

/-- The scale window is the only one whose contents after the body are stated from what the body found. -/
def scaleRel (c : Dev nD) : (w : Fin cfg0.W) → Option (Fin cfg0.N → (Y X : (cfg0.win w).block.Idx → Elt F (cfg0.win w).elt) → Prop)
  | ⟨9, _⟩ => some fun t Y X => X = scalesAt m c t Y
  | _ => none

/-- The proof data: `dats`, with the scale window after the body at `scalesAt` of what the body found in it. -/
def rdat (c : Dev nD) : RDat τ (Elt F) Unit ℕ (UR sig nD τ) ℕ cfg0 c := (dats m 0 c).toR.override (scaleRel m c)

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = qAt m c t := by dsimp only [dats]
theorem after0_6 (c : Dev nD) (t : Fin cfg0.N) : (dats m 0 c).after 6 t = kvAt m c t := by dsimp only [dats]
theorem after0_7 (c : Dev nD) (t : Fin cfg0.N) : (dats m 0 c).after 7 t = peAt m c t := by dsimp only [dats]
theorem after0_8 (c : Dev nD) (t : Fin cfg0.N) : (dats m 0 c).after 8 t = codesAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem rel0 (c : Dev nD) : (rdat m c).after 0 = (dats m 0 c).toR.after 0 := RDat.override_after_of_eq_none _ rfl
theorem rel1 (c : Dev nD) : (rdat m c).after 1 = (dats m 0 c).toR.after 1 := RDat.override_after_of_eq_none _ rfl
theorem rel2 (c : Dev nD) : (rdat m c).after 2 = (dats m 0 c).toR.after 2 := RDat.override_after_of_eq_none _ rfl
theorem rel3 (c : Dev nD) : (rdat m c).after 3 = (dats m 0 c).toR.after 3 := RDat.override_after_of_eq_none _ rfl
theorem rel4 (c : Dev nD) : (rdat m c).after 4 = (dats m 0 c).toR.after 4 := RDat.override_after_of_eq_none _ rfl
theorem rel5 (c : Dev nD) : (rdat m c).after 5 = (dats m 0 c).toR.after 5 := RDat.override_after_of_eq_none _ rfl
theorem rel6 (c : Dev nD) : (rdat m c).after 6 = (dats m 0 c).toR.after 6 := RDat.override_after_of_eq_none _ rfl
theorem rel7 (c : Dev nD) : (rdat m c).after 7 = (dats m 0 c).toR.after 7 := RDat.override_after_of_eq_none _ rfl
theorem rel8 (c : Dev nD) : (rdat m c).after 8 = (dats m 0 c).toR.after 8 := RDat.override_after_of_eq_none _ rfl
theorem rel9 (c : Dev nD) : (rdat m c).after 9 = fun t Y X => X = scalesAt m c t Y := RDat.override_after_of_eq_some _ rfl
theorem finds0 (c : Dev nD) (t : Fin cfg0.N) (X) (h : (rdat m c).Finds 0 t X) : ∃ d, X = (dats m 0 c).before 0 t d :=
  (dats m 0 c).toR_finds 0 t X ((RDat.override_finds _ rfl t X).mp h)
theorem finds1 (c : Dev nD) (t : Fin cfg0.N) (X) (h : (rdat m c).Finds 1 t X) : ∃ d, X = (dats m 0 c).before 1 t d :=
  (dats m 0 c).toR_finds 1 t X ((RDat.override_finds _ rfl t X).mp h)
theorem finds2 (c : Dev nD) (t : Fin cfg0.N) (X) (h : (rdat m c).Finds 2 t X) : ∃ d, X = (dats m 0 c).before 2 t d :=
  (dats m 0 c).toR_finds 2 t X ((RDat.override_finds _ rfl t X).mp h)
theorem finds3 (c : Dev nD) (t : Fin cfg0.N) (X) (h : (rdat m c).Finds 3 t X) : ∃ d, X = (dats m 0 c).before 3 t d :=
  (dats m 0 c).toR_finds 3 t X ((RDat.override_finds _ rfl t X).mp h)
theorem finds4 (c : Dev nD) (t : Fin cfg0.N) (X) (h : (rdat m c).Finds 4 t X) : ∃ d, X = (dats m 0 c).before 4 t d :=
  (dats m 0 c).toR_finds 4 t X ((RDat.override_finds _ rfl t X).mp h)
theorem finds5 (c : Dev nD) (t : Fin cfg0.N) (X) (h : (rdat m c).Finds 5 t X) : ∃ d, X = (dats m 0 c).before 5 t d :=
  (dats m 0 c).toR_finds 5 t X ((RDat.override_finds _ rfl t X).mp h)
theorem finds6 (c : Dev nD) (t : Fin cfg0.N) (X) (h : (rdat m c).Finds 6 t X) : ∃ d, X = (dats m 0 c).before 6 t d :=
  (dats m 0 c).toR_finds 6 t X ((RDat.override_finds _ rfl t X).mp h)
theorem finds7 (c : Dev nD) (t : Fin cfg0.N) (X) (h : (rdat m c).Finds 7 t X) : ∃ d, X = (dats m 0 c).before 7 t d :=
  (dats m 0 c).toR_finds 7 t X ((RDat.override_finds _ rfl t X).mp h)

end Cert.KernelIdeal.Body

end
-- ==== Proof.Body.Sound.lean ====
/-
The body keeps the invariant and the relation of the proof data, at every grid point.
-/
module

public import proofs.«01_k».proof.Proof.Body.Data

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each window is left with is what the proof data says -/

theorem left0 (c : Dev nD) (t : Fin cfg0.N) (Y) : (rdat m c).after 0 t Y (iblk m c 0 t) := by
  rw [rel0]; show (dats m 0 c).Leaves 0 t _
  rw [Dat.Leaves.live_iff _ (.inl (liveAt0_0 t)), ← after0_0]
theorem left1 (c : Dev nD) (t : Fin cfg0.N) (Y) : (rdat m c).after 1 t Y (iblk m c 1 t) := by
  rw [rel1]; show (dats m 0 c).Leaves 1 t _
  rw [Dat.Leaves.live_iff _ (.inl (liveAt0_1 t)), ← after0_1]
theorem left2 (c : Dev nD) (t : Fin cfg0.N) (Y) : (rdat m c).after 2 t Y (iblk m c 2 t) := by
  rw [rel2]; show (dats m 0 c).Leaves 2 t _
  rw [Dat.Leaves.live_iff _ (.inl (liveAt0_2 t)), ← after0_2]
theorem left3 (c : Dev nD) (t : Fin cfg0.N) (Y) : (rdat m c).after 3 t Y (iblk m c 3 t) := by
  rw [rel3]; show (dats m 0 c).Leaves 3 t _
  rw [Dat.Leaves.live_iff _ (.inl (liveAt0_3 t)), ← after0_3]
theorem left4 (c : Dev nD) (t : Fin cfg0.N) (Y) : (rdat m c).after 4 t Y (iblk m c 4 t) := by
  rw [rel4]; show (dats m 0 c).Leaves 4 t _
  rw [Dat.Leaves.live_iff _ (.inl (liveAt0_4 t)), ← after0_4]
theorem left8 (c : Dev nD) (t : Fin cfg0.N) (Y) : (rdat m c).after 8 t Y (codesAt m c t) := by
  rw [rel8]; show (dats m 0 c).Leaves 8 t _
  rw [Dat.Leaves.live_iff _ (.inl (live0_8 t)), ← after0_8]
theorem left9 (c : Dev nD) (t : Fin cfg0.N) (Y) : (rdat m c).after 9 t Y (scalesAt m c t Y) := by
  rw [rel9]
theorem left5_last (c : Dev nD) (t : Fin cfg0.N) (h1 : t.val % 16 = 15) (Y) : (rdat m c).after 5 t Y (qAt m c t) := by
  rw [rel5]; show (dats m 0 c).Leaves 5 t _
  rw [Dat.Leaves.live_iff _ (.inl (live0_5 t ((hcond0_1 t).mpr h1))), ← after0_5]
theorem left5_idle (c : Dev nD) (t : Fin cfg0.N) (h1 : ¬t.val % 16 = 15) (Y) (h : ∃ d, Y = (dats m 0 c).before 5 t d) :
    (rdat m c).after 5 t Y Y := by
  rw [rel5]; show (dats m 0 c).Leaves 5 t _
  rw [Dat.Leaves.idle_iff _ (idle0_5 t fun h => h1 ((hcond0_1 t).mp h)) (noFlush0_5 t fun h => h1 ((hcond0_1 t).mp h))]; exact h
theorem left6_last (c : Dev nD) (t : Fin cfg0.N) (h1 : t.val % 16 = 15) (Y) : (rdat m c).after 6 t Y (kvAt m c t) := by
  rw [rel6]; show (dats m 0 c).Leaves 6 t _
  rw [Dat.Leaves.live_iff _ (.inl (live0_6 t ((hcond0_1 t).mpr h1))), ← after0_6]
theorem left6_idle (c : Dev nD) (t : Fin cfg0.N) (h1 : ¬t.val % 16 = 15) (Y) (h : ∃ d, Y = (dats m 0 c).before 6 t d) :
    (rdat m c).after 6 t Y Y := by
  rw [rel6]; show (dats m 0 c).Leaves 6 t _
  rw [Dat.Leaves.idle_iff _ (idle0_6 t fun h => h1 ((hcond0_1 t).mp h)) (noFlush0_6 t fun h => h1 ((hcond0_1 t).mp h))]; exact h
theorem left7_last (c : Dev nD) (t : Fin cfg0.N) (h1 : t.val % 16 = 15) (Y) : (rdat m c).after 7 t Y (peAt m c t) := by
  rw [rel7]; show (dats m 0 c).Leaves 7 t _
  rw [Dat.Leaves.live_iff _ (.inl (live0_7 t ((hcond0_1 t).mpr h1))), ← after0_7]
theorem left7_idle (c : Dev nD) (t : Fin cfg0.N) (h1 : ¬t.val % 16 = 15) (Y) (h : ∃ d, Y = (dats m 0 c).before 7 t d) :
    (rdat m c).after 7 t Y Y := by
  rw [rel7]; show (dats m 0 c).Leaves 7 t _
  rw [Dat.Leaves.idle_iff _ (idle0_7 t fun h => h1 ((hcond0_1 t).mp h)) (noFlush0_7 t fun h => h1 ((hcond0_1 t).mp h))]; exact h

/-! ## The body at any point -/

set_option maxHeartbeats 9600000 in
/-- The body at point `t`, on its staging buffers: it keeps the invariant and leaves every window in the relation the
    proof data states. -/
theorem sound_body (c : Dev nD) (t : Fin cfg0.N) (y5 : Vec F S256x2048 .bf16) (y6 : Vec F S256x768 .bf16) (y7 : Vec F S256x64 .bf16) (y8 : Vec F S256x1024 .fp8e4m3) (y9 : Vec F S256x128 .f32)
    (f5 : ∃ d, y5 = (dats m 0 c).before 5 t d) (f6 : ∃ d, y6 = (dats m 0 c).before 6 t d) (f7 : ∃ d, y7 = (dats m 0 c).before 7 t d) :
    iprop(inv m c t.val (Nat.le_of_lt t.isLt) ∗ (dats m 0 c).owesAt () t.castSucc
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ owns (c : Thread nD τ) (ms0_5 t) fullShare y5
      ∗ owns (c : Thread nD τ) (ms0_6 t) fullShare y6
      ∗ owns (c : Thread nD τ) (ms0_7 t) fullShare y7
      ∗ owns (c : Thread nD τ) (ms0_8 t) fullShare y8
      ∗ owns (c : Thread nD τ) (ms0_9 t) fullShare y9)
    ⊢ wp frame (wpE (defs₀ (F := F)) Variants.none c none) Set.univ (bodyAt0 t) (fun _ =>
    iprop(inv m c (t.val + 1) t.isLt ∗ (dats m 0 c).owesAt () t.castSucc
      ∗ (∃ X, ⌜(rdat m c).after 0 t (iblk m c 0 t) X⌝ ∗ owns (c : Thread nD τ) (ms0_0 t) fullShare X)
      ∗ (∃ X, ⌜(rdat m c).after 1 t (iblk m c 1 t) X⌝ ∗ owns (c : Thread nD τ) (ms0_1 t) fullShare X)
      ∗ (∃ X, ⌜(rdat m c).after 2 t (iblk m c 2 t) X⌝ ∗ owns (c : Thread nD τ) (ms0_2 t) fullShare X)
      ∗ (∃ X, ⌜(rdat m c).after 3 t (iblk m c 3 t) X⌝ ∗ owns (c : Thread nD τ) (ms0_3 t) fullShare X)
      ∗ (∃ X, ⌜(rdat m c).after 4 t (iblk m c 4 t) X⌝ ∗ owns (c : Thread nD τ) (ms0_4 t) fullShare X)
      ∗ (∃ X, ⌜(rdat m c).after 5 t y5 X⌝ ∗ owns (c : Thread nD τ) (ms0_5 t) fullShare X)
      ∗ (∃ X, ⌜(rdat m c).after 6 t y6 X⌝ ∗ owns (c : Thread nD τ) (ms0_6 t) fullShare X)
      ∗ (∃ X, ⌜(rdat m c).after 7 t y7 X⌝ ∗ owns (c : Thread nD τ) (ms0_7 t) fullShare X)
      ∗ (∃ X, ⌜(rdat m c).after 8 t y8 X⌝ ∗ owns (c : Thread nD τ) (ms0_8 t) fullShare X)
      ∗ (∃ X, ⌜(rdat m c).after 9 t y9 X⌝ ∗ owns (c : Thread nD τ) (ms0_9 t) fullShare X))) := by
  unfold bodyAt0
  have hN : t.val < 16 := lt_of_lt_of_eq t.isLt (show cfg0.N = 16 from N_0)
  rw [inv_succ]
  by_cases h0 : t.val % 16 = 0
  · have h1 : ¬t.val % 16 = 15 := by omega
    have hz : t.val = 0 := by omega
    rw [inv_zero m c _ _ hz, PhiA0_eq]
    rw [accStep_first m c t _ h0 h1]
    iintro ⟨⟨HS0, Hg⟩, Ho, H0, H1, H2, H3, H4, H5, H6, H7, H8, H9⟩
    iapply ((firstAt m c t h0 h1).2.2.2.2.2.2 y9 y5 y6 y7 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [HS0]; · iexact HS0
    iintro ⟨H0, H1, H2, H3, H4, H5, H6, H7, ⟨%e8, H8⟩, ⟨%e9, H9⟩, ⟨%es0, HS0⟩⟩
    isplitl [HS0 Hg]
    · isplitl [HS0]
      · unfold owns; iexists _; isplitr
        swap; · iexact HS0
        ipureintro; exact View.read_writes_of_cover _ _ _ _ _ (firstCoverAcc m c t h0 h1)
      iexact Hg
    isplitl [Ho]; · iexact Ho
    isplitl [H0]
    · iexists _; isplitr; · ipureintro; exact left0 m c t _
      iexact H0
    isplitl [H1]
    · iexists _; isplitr; · ipureintro; exact left1 m c t _
      iexact H1
    isplitl [H2]
    · iexists _; isplitr; · ipureintro; exact left2 m c t _
      iexact H2
    isplitl [H3]
    · iexists _; isplitr; · ipureintro; exact left3 m c t _
      iexact H3
    isplitl [H4]
    · iexists _; isplitr; · ipureintro; exact left4 m c t _
      iexact H4
    isplitl [H5]
    · iexists _; isplitr; · ipureintro; exact left5_idle m c t h1 _ f5
      iexact H5
    isplitl [H6]
    · iexists _; isplitr; · ipureintro; exact left6_idle m c t h1 _ f6
      iexact H6
    isplitl [H7]
    · iexists _; isplitr; · ipureintro; exact left7_idle m c t h1 _ f7
      iexact H7
    isplitl [H8]
    · iexists _; isplitr; · ipureintro; exact left8 m c t _
      unfold owns; iexists _; isplitr
      swap; · iexact H8
      ipureintro; exact (View.read_writes_of_cover _ _ _ _ _ (firstCover8 m c t h0 h1)).trans (codesAt_first m c t h0 h1).symm
    · iexists _; isplitr; · ipureintro; exact left9 m c t _
      unfold owns; iexists _; isplitr
      swap; · iexact H9
      ipureintro; exact (View.read_writes_of_cover _ _ _ _ _ (firstCover9 m c t h0 h1 y9)).trans (scalesAt_first m c t y9 h0 h1).symm
  · have hz : t.val ≠ 0 := by omega
    rw [inv_pos m c _ _ hz]
    by_cases h1 : t.val % 16 = 15
    · rw [accStep_last m c t _ h0 h1]
      iintro ⟨⟨HS0, Hg⟩, Ho, H0, H1, H2, H3, H4, H5, H6, H7, H8, H9⟩
      iapply ((lastAt m c t h0 h1 (accAt m c t)).2.2.2.2.2.2 y9 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexact H9
      isplitl [HS0]; · iexact HS0
      iintro ⟨H0, H1, H2, H3, H4, ⟨%e5, H5⟩, ⟨%e6, H6⟩, ⟨%e7, H7⟩, ⟨%e8, H8⟩, ⟨%e9, H9⟩, ⟨%es0, HS0⟩⟩
      isplitl [HS0 Hg]
      · isplitl [HS0]
        · unfold owns; iexists _; isplitr
          swap; · iexact HS0
          ipureintro; exact View.read_writes_of_cover _ _ _ _ _ (lastCoverAcc m c t h0 h1 (accAt m c t))
        iexact Hg
      isplitl [Ho]; · iexact Ho
      isplitl [H0]
      · iexists _; isplitr; · ipureintro; exact left0 m c t _
        iexact H0
      isplitl [H1]
      · iexists _; isplitr; · ipureintro; exact left1 m c t _
        iexact H1
      isplitl [H2]
      · iexists _; isplitr; · ipureintro; exact left2 m c t _
        iexact H2
      isplitl [H3]
      · iexists _; isplitr; · ipureintro; exact left3 m c t _
        iexact H3
      isplitl [H4]
      · iexists _; isplitr; · ipureintro; exact left4 m c t _
        iexact H4
      isplitl [H5]
      · iexists _; isplitr; · ipureintro; exact left5_last m c t h1 _
        unfold owns; iexists _; isplitr
        swap; · iexact H5
        ipureintro; exact (View.read_writes_of_cover _ _ _ _ _ (lastCover5 m c t h0 h1 (accAt m c t))).trans (qAt_last m c t h0 h1).symm
      isplitl [H6]
      · iexists _; isplitr; · ipureintro; exact left6_last m c t h1 _
        unfold owns; iexists _; isplitr
        swap; · iexact H6
        ipureintro; exact (View.read_writes_of_cover _ _ _ _ _ (lastCover6 m c t h0 h1 (accAt m c t))).trans (kvAt_last m c t h0 h1).symm
      isplitl [H7]
      · iexists _; isplitr; · ipureintro; exact left7_last m c t h1 _
        unfold owns; iexists _; isplitr
        swap; · iexact H7
        ipureintro; exact (View.read_writes_of_cover _ _ _ _ _ (lastCover7 m c t h0 h1 (accAt m c t))).trans (peAt_last m c t h0 h1).symm
      isplitl [H8]
      · iexists _; isplitr; · ipureintro; exact left8 m c t _
        unfold owns; iexists _; isplitr
        swap; · iexact H8
        ipureintro; exact (View.read_writes_of_cover _ _ _ _ _ (lastCover8 m c t h0 h1 (accAt m c t))).trans (codesAt_last m c t h0 h1).symm
      · iexists _; isplitr; · ipureintro; exact left9 m c t _
        unfold owns; iexists _; isplitr
        swap; · iexact H9
        ipureintro; exact (View.read_writes_of_cover _ _ _ _ _ (lastCover9 m c t h0 h1 (accAt m c t) y9)).trans (scalesAt_last m c t y9 h0 h1).symm
    · rw [accStep_mid m c t _ h0 h1]
      iintro ⟨⟨HS0, Hg⟩, Ho, H0, H1, H2, H3, H4, H5, H6, H7, H8, H9⟩
      iapply ((midAt m c t h0 h1 (accAt m c t)).2.2.2.2.2.2 y9 y5 y6 y7 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [HS0]; · iexact HS0
      iintro ⟨H0, H1, H2, H3, H4, H5, H6, H7, ⟨%e8, H8⟩, ⟨%e9, H9⟩, ⟨%es0, HS0⟩⟩
      isplitl [HS0 Hg]
      · isplitl [HS0]
        · unfold owns; iexists _; isplitr
          swap; · iexact HS0
          ipureintro; exact View.read_writes_of_cover _ _ _ _ _ (midCoverAcc m c t h0 h1 (accAt m c t))
        iexact Hg
      isplitl [Ho]; · iexact Ho
      isplitl [H0]
      · iexists _; isplitr; · ipureintro; exact left0 m c t _
        iexact H0
      isplitl [H1]
      · iexists _; isplitr; · ipureintro; exact left1 m c t _
        iexact H1
      isplitl [H2]
      · iexists _; isplitr; · ipureintro; exact left2 m c t _
        iexact H2
      isplitl [H3]
      · iexists _; isplitr; · ipureintro; exact left3 m c t _
        iexact H3
      isplitl [H4]
      · iexists _; isplitr; · ipureintro; exact left4 m c t _
        iexact H4
      isplitl [H5]
      · iexists _; isplitr; · ipureintro; exact left5_idle m c t h1 _ f5
        iexact H5
      isplitl [H6]
      · iexists _; isplitr; · ipureintro; exact left6_idle m c t h1 _ f6
        iexact H6
      isplitl [H7]
      · iexists _; isplitr; · ipureintro; exact left7_idle m c t h1 _ f7
        iexact H7
      isplitl [H8]
      · iexists _; isplitr; · ipureintro; exact left8 m c t _
        unfold owns; iexists _; isplitr
        swap; · iexact H8
        ipureintro; exact (View.read_writes_of_cover _ _ _ _ _ (midCover8 m c t h0 h1 (accAt m c t))).trans (codesAt_mid m c t h0 h1).symm
      · iexists _; isplitr; · ipureintro; exact left9 m c t _
        unfold owns; iexists _; isplitr
        swap; · iexact H9
        ipureintro; exact (View.read_writes_of_cover _ _ _ _ _ (midCover9 m c t h0 h1 (accAt m c t) y9)).trans (scalesAt_mid m c t y9 h0 h1).symm

theorem defs₀_row (t : Fin cfg0.N) :
    defs₀ (F := F) .tc cfg0.body (cfg0.bodyArgs t (cfg0.slots t)) = bodyAt0 t := by
  unfold defs₀; rw [Defs.onTc_tc]

/-- The body obligation of the relational proof data, at every point. -/
theorem body_obligation (c : Dev nD) : (rdat m c).BodyObligation (defs₀ (F := F)) Variants.none () Set.univ := fun t Y hY => by
  have e0 : Y 0 = iblk m c 0 t := by obtain ⟨d, hd⟩ := finds0 m c t _ (hY 0); exact hd.trans (before0_0 m c t d)
  have e1 : Y 1 = iblk m c 1 t := by obtain ⟨d, hd⟩ := finds1 m c t _ (hY 1); exact hd.trans (before0_1 m c t d)
  have e2 : Y 2 = iblk m c 2 t := by obtain ⟨d, hd⟩ := finds2 m c t _ (hY 2); exact hd.trans (before0_2 m c t d)
  have e3 : Y 3 = iblk m c 3 t := by obtain ⟨d, hd⟩ := finds3 m c t _ (hY 3); exact hd.trans (before0_3 m c t d)
  have e4 : Y 4 = iblk m c 4 t := by obtain ⟨d, hd⟩ := finds4 m c t _ (hY 4); exact hd.trans (before0_4 m c t d)
  rw [bigSep_W0, bigSep_W0, defs₀_row, e0, e1, e2, e3, e4]
  exact triple_restated (sound_body m c t (Y 5) (Y 6) (Y 7) (Y 8) (Y 9) (finds5 m c t _ (hY 5)) (finds6 m c t _ (hY 6)) (finds7 m c t _ (hY 7))) rfl .rfl fun _ => .rfl

theorem hin (c : Dev nD) : Pipeline.ΦA spec0 c ⊢ (rdat m c).Φ 0 := by
  rw [show (rdat m c).Φ 0 = inv m c 0 (Nat.zero_le _) from rfl, inv_zero m c 0 _ rfl]
  try exact Idealize.SL.BI.Entails.refl _

theorem hout (c : Dev nD) : (rdat m c).Φ (Fin.last cfg0.N) ⊢ Pipeline.ΦA spec0 c := by
  rw [show (rdat m c).Φ (Fin.last cfg0.N) = inv m c cfg0.N (Nat.le_refl _) from rfl, inv_pos m c _ _ (by have : cfg0.N = 16 := N_0; omega), PhiA0_eq]
  iintro ⟨HS0, Hg⟩
  isplitl [HS0]
  · iexists _; iexact HS0
  iexact Hg

theorem rA_eq (c : Dev nD) (w : Fin cfg0.W) : (rdat m c).A w = V m c (Pipeline.arrRef spec0 w) := A_eq m c w

end Cert.KernelIdeal.Body

end
-- ==== Proof.Body.Launch.lean ====
/-
The launch of the kernel under the relational proof data.
-/
module

public import proofs.«01_k».proof.Proof.Body.Sound

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false

/-- The launch at any relational proof data that the body satisfies: @main ends with every array of the pipeline at contents
    the data allow, every other buffer as the region found it, and every semaphore counter at zero. -/
theorem launch (rd : (c : Dev nD) → RDat τ (Elt F) Unit ℕ (UR sig nD τ) ℕ cfg0 c)
    (hbody : ∀ c, (rd c).BodyObligation (defs₀ (F := F)) Variants.none () Set.univ)
    (hshare : ∀ c w, (rd c).share w = fullShare) (howed : ∀ c t, (rd c).owed t = 0)
    (hA : ∀ c w, (rd c).A w = V m c (Pipeline.arrRef spec0 w))
    (hin : ∀ c, Pipeline.ΦA spec0 c ⊢ (rd c).Φ 0) (hout : ∀ c, (rd c).Φ (Fin.last cfg0.N) ⊢ Pipeline.ΦA spec0 c) :
    θ_run defs (onTc (τ := τ) (main (F := F))) (s₀ m ρ) (fun r => RDat.FramePost cfg0 rd (V m) r ∧ r.2.sem = fun _ => 0) :=
  Pipeline.RDat.θ_run_frame_track cfgs (0 : Fin 1) launch0 defs₀ Variants.none rd m ρ main
    hbody hshare howed (V m) (hmain m Variants.none) hA hin hout _ (fun _ h => h)

/-- Every execution of @main ends with the arrays at contents the proof data allow, and all counters at zero. -/
theorem run_main_quiescent : θ_run defs (onTc (τ := τ) (main (F := F))) (s₀ m ρ) (fun r => RDat.FramePost cfg0 (rdat m) (V m) r ∧ r.2.sem = fun _ => 0) :=
  launch m ρ (rdat m) (body_obligation m) (fun c => (dats m 0 c).share_full fun _ => rfl) (fun _ _ => rfl) (rA_eq m) (hin m) (hout m)

end Cert.KernelIdeal.Body

end
-- ==== Proof.Body.Final.lean ====
/-
What the arrays hold after the run, read off the proof data.
-/
module

public import proofs.«01_k».proof.Proof.Body.Launch
public import Idealize.ShloMosaic.Lib.Pipeline.Value
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The last grid point. -/
abbrev tLast : Fin cfg0.N := ⟨15, lt_of_lt_of_eq (by decide) N_0.symm⟩

theorem idx0_5 : ∀ t : Fin cfg0.N, win0_5.index t (0 : Fin 2) = 0 ∧ win0_5.index t (1 : Fin 2) = 0 :=
  (by decide +kernel : ∀ t : Fin grid0.N, _)

/-- Window 5's block is its whole array. -/
theorem emb5 (t : Fin cfg0.N) (y : S256x2048.Idx) : ((cfg0.win 5).blk t).view.emb y = y := by
  obtain ⟨e0, e1⟩ := idx0_5 t
  have hb0 : (((cfg0.win 5).blk t).view.emb y 0).val = win0_5.index t (0 : Fin 2) * 256 + 1 * (y 0).val := rfl
  have hb1 : (((cfg0.win 5).blk t).view.emb y 1).val = win0_5.index t (1 : Fin 2) * 2048 + 1 * (y 1).val := rfl
  funext a; apply Fin.ext
  match a with
  | ⟨0, _⟩ => show (((cfg0.win 5).blk t).view.emb y 0).val = (y 0).val; rw [hb0, e0]; omega
  | ⟨1, _⟩ => show (((cfg0.win 5).blk t).view.emb y 1).val = (y 1).val; rw [hb1, e1]; omega

theorem mem_blk5 (t : Fin cfg0.N) (i : S256x2048.Idx) : i ∈ ((cfg0.win 5).blk t).view.set := by
  rw [← emb5 t i]; exact View.emb_mem_set _ _

theorem idx0_6 : ∀ t : Fin cfg0.N, win0_6.index t (0 : Fin 2) = 0 ∧ win0_6.index t (1 : Fin 2) = 0 :=
  (by decide +kernel : ∀ t : Fin grid0.N, _)

/-- Window 6's block is its whole array. -/
theorem emb6 (t : Fin cfg0.N) (y : S256x768.Idx) : ((cfg0.win 6).blk t).view.emb y = y := by
  obtain ⟨e0, e1⟩ := idx0_6 t
  have hb0 : (((cfg0.win 6).blk t).view.emb y 0).val = win0_6.index t (0 : Fin 2) * 256 + 1 * (y 0).val := rfl
  have hb1 : (((cfg0.win 6).blk t).view.emb y 1).val = win0_6.index t (1 : Fin 2) * 768 + 1 * (y 1).val := rfl
  funext a; apply Fin.ext
  match a with
  | ⟨0, _⟩ => show (((cfg0.win 6).blk t).view.emb y 0).val = (y 0).val; rw [hb0, e0]; omega
  | ⟨1, _⟩ => show (((cfg0.win 6).blk t).view.emb y 1).val = (y 1).val; rw [hb1, e1]; omega

theorem mem_blk6 (t : Fin cfg0.N) (i : S256x768.Idx) : i ∈ ((cfg0.win 6).blk t).view.set := by
  rw [← emb6 t i]; exact View.emb_mem_set _ _

theorem idx0_7 : ∀ t : Fin cfg0.N, win0_7.index t (0 : Fin 2) = 0 ∧ win0_7.index t (1 : Fin 2) = 0 :=
  (by decide +kernel : ∀ t : Fin grid0.N, _)

/-- Window 7's block is its whole array. -/
theorem emb7 (t : Fin cfg0.N) (y : S256x64.Idx) : ((cfg0.win 7).blk t).view.emb y = y := by
  obtain ⟨e0, e1⟩ := idx0_7 t
  have hb0 : (((cfg0.win 7).blk t).view.emb y 0).val = win0_7.index t (0 : Fin 2) * 256 + 1 * (y 0).val := rfl
  have hb1 : (((cfg0.win 7).blk t).view.emb y 1).val = win0_7.index t (1 : Fin 2) * 64 + 1 * (y 1).val := rfl
  funext a; apply Fin.ext
  match a with
  | ⟨0, _⟩ => show (((cfg0.win 7).blk t).view.emb y 0).val = (y 0).val; rw [hb0, e0]; omega
  | ⟨1, _⟩ => show (((cfg0.win 7).blk t).view.emb y 1).val = (y 1).val; rw [hb1, e1]; omega

theorem mem_blk7 (t : Fin cfg0.N) (i : S256x64.Idx) : i ∈ ((cfg0.win 7).blk t).view.set := by
  rw [← emb7 t i]; exact View.emb_mem_set _ _

theorem idx0_9 : ∀ t : Fin cfg0.N, win0_9.index t (0 : Fin 2) = 0 ∧ win0_9.index t (1 : Fin 2) = 0 :=
  (by decide +kernel : ∀ t : Fin grid0.N, _)

/-- Window 9's block is its whole array. -/
theorem emb9 (t : Fin cfg0.N) (y : S256x128.Idx) : ((cfg0.win 9).blk t).view.emb y = y := by
  obtain ⟨e0, e1⟩ := idx0_9 t
  have hb0 : (((cfg0.win 9).blk t).view.emb y 0).val = win0_9.index t (0 : Fin 2) * 256 + 1 * (y 0).val := rfl
  have hb1 : (((cfg0.win 9).blk t).view.emb y 1).val = win0_9.index t (1 : Fin 2) * 128 + 1 * (y 1).val := rfl
  funext a; apply Fin.ext
  match a with
  | ⟨0, _⟩ => show (((cfg0.win 9).blk t).view.emb y 0).val = (y 0).val; rw [hb0, e0]; omega
  | ⟨1, _⟩ => show (((cfg0.win 9).blk t).view.emb y 1).val = (y 1).val; rw [hb1, e1]; omega

theorem mem_blk9 (t : Fin cfg0.N) (i : S256x128.Idx) : i ∈ ((cfg0.win 9).blk t).view.set := by
  rw [← emb9 t i]; exact View.emb_mem_set _ _

/-- Result 1 ends as the block the body leaves at the last point. -/
theorem final5 (c : Dev nD) : (dats m 0 c).arrAt 5 cfg0.N = qAt m c tLast := by
  refine (dats m 0 c).arrAt_eq_of_cover 5 _ (fun t hf => ?_) (fun i => ⟨tLast, (flush0_5 tLast).mpr rfl, mem_blk5 tLast i⟩)
  have hm : t.val % 16 = 15 := (flush0_5 t).mp hf
  have hN : t.val < 16 := lt_of_lt_of_eq t.isLt (show cfg0.N = 16 from N_0)
  obtain rfl : t = tLast := Fin.ext (by show t.val = 15; omega)
  show (cfg0.win 5).cut (grid0.coords tLast) ((dats m 0 c).after 5 tLast) = _
  rw [after0_5]
  funext y
  show qAt m c tLast ((cfg0.win 5).xinj (grid0.coords tLast) y) = qAt m c tLast (((cfg0.win 5).blk tLast).view.emb y)
  rw [emb5 tLast y]

/-- Result 2 ends as the block the body leaves at the last point. -/
theorem final6 (c : Dev nD) : (dats m 0 c).arrAt 6 cfg0.N = kvAt m c tLast := by
  refine (dats m 0 c).arrAt_eq_of_cover 6 _ (fun t hf => ?_) (fun i => ⟨tLast, (flush0_6 tLast).mpr rfl, mem_blk6 tLast i⟩)
  have hm : t.val % 16 = 15 := (flush0_6 t).mp hf
  have hN : t.val < 16 := lt_of_lt_of_eq t.isLt (show cfg0.N = 16 from N_0)
  obtain rfl : t = tLast := Fin.ext (by show t.val = 15; omega)
  show (cfg0.win 6).cut (grid0.coords tLast) ((dats m 0 c).after 6 tLast) = _
  rw [after0_6]
  funext y
  show kvAt m c tLast ((cfg0.win 6).xinj (grid0.coords tLast) y) = kvAt m c tLast (((cfg0.win 6).blk tLast).view.emb y)
  rw [emb6 tLast y]

/-- Result 3 ends as the block the body leaves at the last point. -/
theorem final7 (c : Dev nD) : (dats m 0 c).arrAt 7 cfg0.N = peAt m c tLast := by
  refine (dats m 0 c).arrAt_eq_of_cover 7 _ (fun t hf => ?_) (fun i => ⟨tLast, (flush0_7 tLast).mpr rfl, mem_blk7 tLast i⟩)
  have hm : t.val % 16 = 15 := (flush0_7 t).mp hf
  have hN : t.val < 16 := lt_of_lt_of_eq t.isLt (show cfg0.N = 16 from N_0)
  obtain rfl : t = tLast := Fin.ext (by show t.val = 15; omega)
  show (cfg0.win 7).cut (grid0.coords tLast) ((dats m 0 c).after 7 tLast) = _
  rw [after0_7]
  funext y
  show peAt m c tLast ((cfg0.win 7).xinj (grid0.coords tLast) y) = peAt m c tLast (((cfg0.win 7).blk tLast).view.emb y)
  rw [emb7 tLast y]

/-- The grid point that writes column `i 1` of the codes, and the place of `i` in that point's block. -/
abbrev codePt (i : S256x16384.Idx) : Fin cfg0.N :=
  ⟨(i 1).val / 1024, lt_of_lt_of_eq (by have h : (i 1).val < 16384 := (i 1).isLt; omega) N_0.symm⟩
set_option backward.proofsInPublic true in
abbrev codeLoc (i : S256x16384.Idx) : S256x1024.Idx := fun a => match a with
  | ⟨0, _⟩ => i 0
  | ⟨1, _⟩ => ⟨(i 1).val % 1024, Nat.mod_lt _ (by decide)⟩

/-- The codes: column block `t` is what the body leaves at point `t`. -/
def codesFinal (c : Dev nD) : Buf (Elt F) ((c : Thread nD τ).loc main_v3_3) := fun i => codesAt m c (codePt i) (codeLoc i)

theorem idx0_8 : ∀ t : Fin cfg0.N, win0_8.index t (0 : Fin 2) = 0 ∧ win0_8.index t (1 : Fin 2) = t.val :=
  (by decide +kernel : ∀ t : Fin grid0.N, _)

theorem emb8_pt (t : Fin cfg0.N) (y : S256x1024.Idx) : codePt (((cfg0.win 8).blk t).view.emb y) = t := by
  obtain ⟨e0, e1⟩ := idx0_8 t
  have hy1 : (y 1).val < 1024 := (y 1).isLt
  have hb1 : (((cfg0.win 8).blk t).view.emb y 1).val = win0_8.index t (1 : Fin 2) * 1024 + 1 * (y 1).val := rfl
  apply Fin.ext
  show (((cfg0.win 8).blk t).view.emb y 1).val / 1024 = t.val
  rw [hb1, e1]; omega

theorem emb8_loc (t : Fin cfg0.N) (y : S256x1024.Idx) : codeLoc (((cfg0.win 8).blk t).view.emb y) = y := by
  obtain ⟨e0, e1⟩ := idx0_8 t
  have hy1 : (y 1).val < 1024 := (y 1).isLt
  have hb0 : (((cfg0.win 8).blk t).view.emb y 0).val = win0_8.index t (0 : Fin 2) * 256 + 1 * (y 0).val := rfl
  have hb1 : (((cfg0.win 8).blk t).view.emb y 1).val = win0_8.index t (1 : Fin 2) * 1024 + 1 * (y 1).val := rfl
  funext a; apply Fin.ext
  match a with
  | ⟨0, _⟩ => show (((cfg0.win 8).blk t).view.emb y 0).val = (y 0).val; rw [hb0, e0]; omega
  | ⟨1, _⟩ => show (((cfg0.win 8).blk t).view.emb y 1).val % 1024 = (y 1).val; rw [hb1, e1]; omega

theorem mem_blk8 (i : S256x16384.Idx) : i ∈ ((cfg0.win 8).blk (codePt i)).view.set := by
  have he : ((cfg0.win 8).blk (codePt i)).view.emb (codeLoc i) = i := by
    obtain ⟨e0, e1⟩ := idx0_8 (codePt i)
    have hb0 : (((cfg0.win 8).blk (codePt i)).view.emb (codeLoc i) 0).val = win0_8.index (codePt i) (0 : Fin 2) * 256 + 1 * (codeLoc i 0).val := rfl
    have hb1 : (((cfg0.win 8).blk (codePt i)).view.emb (codeLoc i) 1).val = win0_8.index (codePt i) (1 : Fin 2) * 1024 + 1 * (codeLoc i 1).val := rfl
    funext a; apply Fin.ext
    match a with
    | ⟨0, _⟩ => show (((cfg0.win 8).blk (codePt i)).view.emb (codeLoc i) 0).val = (i 0).val; rw [hb0, e0]; show 0 * 256 + 1 * (i 0).val = _; omega
    | ⟨1, _⟩ =>
      show (((cfg0.win 8).blk (codePt i)).view.emb (codeLoc i) 1).val = (i 1).val; rw [hb1, e1]
      show (i 1).val / 1024 * 1024 + 1 * ((i 1).val % 1024) = _; omega
  have := View.emb_mem_set ((cfg0.win 8).blk (codePt i)).view (codeLoc i)
  rwa [he] at this

theorem final8 (c : Dev nD) : (dats m 0 c).arrAt 8 cfg0.N = codesFinal m c := by
  refine (dats m 0 c).arrAt_eq_of_cover 8 _ (fun t hf => ?_) (fun i => ⟨codePt i, flush0_8 _, mem_blk8 i⟩)
  show (cfg0.win 8).cut (grid0.coords t) ((dats m 0 c).after 8 t) = _
  rw [after0_8]
  funext y
  show codesAt m c t ((cfg0.win 8).xinj (grid0.coords t) y) = codesAt m c (codePt (((cfg0.win 8).blk t).view.emb y)) (codeLoc (((cfg0.win 8).blk t).view.emb y))
  rw [emb8_pt, emb8_loc]

/-- A property of the scale block that the first point establishes whatever it finds, and every later point keeps up, holds
    of whatever the body leaves. -/
theorem leaves9 (c : Dev nD) (Q : ℕ → Vec F S256x128 .f32 → Prop)
    (hz : ∀ (t : Fin cfg0.N) Y, t.val = 0 → Q 0 (scalesAt m c t Y))
    (hs : ∀ (t : Fin cfg0.N) Y n, t.val = n + 1 → Q n Y → Q (n + 1) (scalesAt m c t Y)) :
    ∀ (n : ℕ) (t : Fin cfg0.N), t.val = n → ∀ X, (rdat m c).Leaves 9 t X → Q n X
  | 0, t, ht, X, ⟨Y, _, hX⟩ => by
    rw [rel9] at hX; subst hX; exact hz t Y ht
  | n + 1, t, ht, X, ⟨Y, hY, hX⟩ => by
    rw [rel9] at hX; subst hX
    refine hs t Y n ht ?_
    have hN : t.val < 16 := lt_of_lt_of_eq t.isLt (show cfg0.N = 16 from N_0)
    rcases ((rdat m c).finds_of_pos (w := 9) rfl (by omega) Y).mp hY with hfl | hL
    · have := (flush0_9 _).mp hfl; dsimp only at this; omega
    · exact leaves9 c Q hz hs n ⟨t.val - 1, _⟩ (by show t.val - 1 = n; omega) Y hL

/-- The scale array ends as something the body may leave at the last point. -/
theorem final9 (c : Dev nD) (G) (h : (rdat m c).ArrAt 9 cfg0.N G) : (rdat m c).Leaves 9 tLast G := by
  obtain ⟨G₀, X, _, hX, hG⟩ : (rdat m c).ArrStep 9 tLast ((rdat m c).ArrAt 9 15) G := by
    have h' : (rdat m c).ArrAt 9 (15 + 1) G := by have e : cfg0.N = 15 + 1 := N_0; rw [e] at h; exact h
    unfold RDat.ArrAt at h'
    rw [dif_pos (show 15 < cfg0.N from lt_of_lt_of_eq (by decide) N_0.symm), if_pos ((flush0_9 tLast).mpr rfl)] at h'
    exact h'
  have e : G = X := by
    rw [hG]
    funext i
    have hi := emb9 tLast i
    have hr := congrFun (View.read_write_univ (Val := Elt F) (v := ((cfg0.win 9).blk tLast).view) G₀ ((cfg0.win 9).cut (grid0.coords tLast) X)) i
    exact (congrArg _ hi.symm).trans hr
  rw [e]; exact hX

/-- For a window other than the scale window the array ends as the exact proof data say. -/
theorem arrAt_iff (c : Dev nD) (w : Fin cfg0.W) (h : scaleRel m c w = none) (G) : (rdat m c).ArrAt w cfg0.N G ↔ G = (dats m 0 c).arrAt w cfg0.N :=
  ((dats m 0 c).toR.override_arrAt h cfg0.N G).trans ((dats m 0 c).toR_arrAt_iff w cfg0.N G)

/-- The run read: each result at what the bodies leave, the arguments unchanged. -/
theorem run : θ_run defs (onTc (τ := τ) (main (F := F))) ⟨m, fun _ => 0, ρ⟩ fun r => ∀ c : Dev nD,
      r.2.mem ((c : Thread nD τ).loc main_v3_0) = qAt m c tLast
      ∧ r.2.mem ((c : Thread nD τ).loc main_v3_1) = kvAt m c tLast
      ∧ r.2.mem ((c : Thread nD τ).loc main_v3_2) = peAt m c tLast
      ∧ r.2.mem ((c : Thread nD τ).loc main_v3_3) = codesFinal m c
      ∧ (rdat m c).Leaves 9 tLast (r.2.mem ((c : Thread nD τ).loc main_v3_4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((arrAt_iff m c 5 rfl _).mp ((h.1 c).1 5)).trans (final5 m c),
      ((arrAt_iff m c 6 rfl _).mp ((h.1 c).1 6)).trans (final6 m c),
      ((arrAt_iff m c 7 rfl _).mp ((h.1 c).1 7)).trans (final7 m c),
      ((arrAt_iff m c 8 rfl _).mp ((h.1 c).1 8)).trans (final8 m c),
      final9 m c _ ((h.1 c).1 9),
      ((h.1 c).2 main_arg0 (Pipeline.mem_restRefs_of main_arg0 (by decide) (by decide))).trans (V_main_arg0 m c),
      ((arrAt_iff m c 1 rfl _).mp ((h.1 c).1 1)).trans (((dats m 0 c).arrAt_in 1 rfl _).trans ((A_eq m c 1).trans (V_main_arg1 m c))),
      ((arrAt_iff m c 2 rfl _).mp ((h.1 c).1 2)).trans (((dats m 0 c).arrAt_in 2 rfl _).trans ((A_eq m c 2).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩)
    (run_main_quiescent m ρ)

/-- The frame: every execution ends, the arguments unchanged and every semaphore counter at zero. -/
theorem frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.sem = fun _ => 0) :=
  θ_run_and ((θ_run defs _ _).mono (fun _ h c => (h c).2.2.2.2.2) (run m ρ)) ((θ_run defs _ _).mono (fun _ h => h.2) (run_main_quiescent m ρ))

end Cert.KernelIdeal.Body

end
-- ==== Proof.Value.Acc.lean ====
/-
The accumulator after a number of chunks: the part of the product that those chunks make.
-/
module

public import proofs.«01_k».proof.Proof.Value.Chunk
public import proofs.«01_k».proof.Proof.Body.Pieces
public import proofs.«01_k».proof.Proof.Body.Final
public import Idealize.ShloMosaic.Lib.Writes

@[expose] public section

set_option maxRecDepth 16384

noncomputable section

namespace Cert.KernelIdeal.Body

open Cert.KernelIdeal.Gen
open Idealize.ShloMosaic Idealize.ShloMosaic.TcCoe Idealize.ShloMosaic.Tactic
open Cert.Exponent
open scoped BigOperators

open Cert.Quant

section canon
variable {s : Shape} {e : EltTy}
/-- The newest store read at a place it holds. -/
theorem canon_hit (off size : Fin s.rank → ℕ) (inb : ∀ a, off a + size a ≤ s.size a) (w : (Rect.unit off size inb).shape.Idx → Elt Ideal e)
    (L : List (View.Piece (Elt Ideal) s e)) (y : s.Idx) (x : (Rect.unit off size inb).shape.Idx) (hx : ∀ a, (y a).val = off a + (x a).val) :
    View.canon (⟨Rect.unit off size inb, w⟩ :: L) y = w x := by
  have hy : (Rect.unit off size inb).emb x = y := Rect.emb_eq_of_coords _ x y fun a => by rw [hx a]; show off a + (x a).val = off a + 1 * (x a).val; omega
  rw [← hy]; exact View.canon_cons_emb _ w L x
/-- The newest store does not touch a place outside it. -/
theorem canon_miss (off size : Fin s.rank → ℕ) (inb : ∀ a, off a + size a ≤ s.size a) (w : (Rect.unit off size inb).shape.Idx → Elt Ideal e)
    (L : List (View.Piece (Elt Ideal) s e)) (y : s.Idx) (a : Fin s.rank) (h : (y a).val < off a ∨ off a + size a ≤ (y a).val) :
    View.canon (⟨Rect.unit off size inb, w⟩ :: L) y = View.canon L y :=
  View.canon_cons_of_not_mem _ L (Rect.not_mem_set_of_axis _ y a (off a) (size a) rfl rfl rfl h)
end canon

variable (m : (ℓ : Loc nD τ sig) → Buf (Elt Ideal) ℓ) (c : Dev nD)

/-- The stores into the first `n` row blocks at a point after the first. -/
abbrev blocksAt (t : Fin cfg0.N) (acc : Vec Ideal S2880x256 .f32) (n : ℕ) (hn : n ≤ 22) : List (View.Piece (Elt Ideal) S2880x256 .f32) :=
  blocks (ms0_0 t) (hs0_0 t) (ms0_1 t) (hs0_1 t) (ms0_2 t) (hs0_2 t) scM0_0 (Memref.isWhole_whole _) (grid0.coords t) (iblk m c 0 t) (iblk m c 1 t) (iblk m c 2 t) acc n hn
/-- The stores up to row block `n` at the first point. -/
abbrev blocksFirstAt (t : Fin cfg0.N) (n : ℕ) (hn : n ≤ 22) : List (View.Piece (Elt Ideal) S2880x256 .f32) :=
  blocksFirst (ms0_0 t) (hs0_0 t) (ms0_1 t) (hs0_1 t) (ms0_2 t) (hs0_2 t) scM0_0 (grid0.coords t) (iblk m c 0 t) (iblk m c 1 t) (iblk m c 2 t) n hn
/-- All stores into the accumulator at the first point. -/
abbrev storesFirstAt (t : Fin cfg0.N) : List (View.Piece (Elt Ideal) S2880x256 .f32) :=
  storesFirst (ms0_0 t) (hs0_0 t) (ms0_1 t) (hs0_1 t) (ms0_2 t) (hs0_2 t) scM0_0 (grid0.coords t) (iblk m c 0 t) (iblk m c 1 t) (iblk m c 2 t)
/-- All stores into the accumulator at a point after the first. -/
abbrev storesAt (t : Fin cfg0.N) (acc : Vec Ideal S2880x256 .f32) : List (View.Piece (Elt Ideal) S2880x256 .f32) :=
  stores (ms0_0 t) (hs0_0 t) (ms0_1 t) (hs0_1 t) (ms0_2 t) (hs0_2 t) scM0_0 (Memref.isWhole_whole _) (grid0.coords t) (iblk m c 0 t) (iblk m c 1 t) (iblk m c 2 t) acc

theorem canon_blocks (h : Ranged m c) (t : Fin cfg0.N) (acc : Vec Ideal S2880x256 .f32) (ρ : Fin 2880) (i : Fin 256) :
    ∀ (n : ℕ) (hn : n ≤ 22), ρ.val < 128 * n → View.canon (blocksAt m c t acc n hn) (ix2 ρ i) = acc (ix2 ρ i) + chunk (fW m c) (fS m c) (fX m c) (pt t) ρ i
  | 0, _, hρ => absurd hρ (by omega)
  | n + 1, hn, hρ => by
    by_cases hb : ρ.val < 128 * n
    · refine (canon_miss _ _ _ _ _ _ (0 : Fin 2) (.inl hb)).trans ?_
      exact canon_blocks h t acc ρ i n (by omega) hb
    · have hr : ρ = ⟨128 * n + (ρ.val - 128 * n), by omega⟩ := Fin.ext (by show ρ.val = 128 * n + (ρ.val - 128 * n); omega)
      refine (canon_hit _ _ _ _ _ _ (ix2 (⟨ρ.val - 128 * n, by omega⟩ : Fin 128) i) fun a => ?_).trans ?_
      · match a with
        | ⟨0, _⟩ => show ρ.val = 128 * n + (ρ.val - 128 * n); omega
        | ⟨1, _⟩ => show i.val = 0 + i.val; omega
      · rw [newA_apply m c h, rdA_apply]
        simp only [← hr]

theorem canon_stores (h : Ranged m c) (t : Fin cfg0.N) (acc : Vec Ideal S2880x256 .f32) (ρ : Fin 2880) (i : Fin 256) :
    View.canon (storesAt m c t acc) (ix2 ρ i) = acc (ix2 ρ i) + chunk (fW m c) (fS m c) (fX m c) (pt t) ρ i := by
  by_cases hb : ρ.val < 2816
  · refine (canon_miss _ _ _ _ _ _ (0 : Fin 2) (.inl hb)).trans ?_
    exact canon_blocks m c h t acc ρ i 22 le_rfl hb
  · have hr : ρ = ⟨2816 + (ρ.val - 2816), by omega⟩ := Fin.ext (by show ρ.val = 2816 + (ρ.val - 2816); omega)
    refine (canon_hit _ _ _ _ _ _ (ix2 (⟨ρ.val - 2816, by omega⟩ : Fin 64) i) fun a => ?_).trans ?_
    · match a with
      | ⟨0, _⟩ => show ρ.val = 2816 + (ρ.val - 2816); omega
      | ⟨1, _⟩ => show i.val = 0 + i.val; omega
    · rw [newA64_apply m c h, rdA64_apply]
      simp only [← hr]

theorem zeroA_apply (y : S2880x256.Idx) : (zeroA (F := Ideal)) y = 0 := by
  rw [eq_ix2 y]
  pointwise [zeroA]

theorem canon_blocksFirst (h : Ranged m c) (t : Fin cfg0.N) (ρ : Fin 2880) (i : Fin 256) :
    ∀ (n : ℕ) (hn : n ≤ 22), View.canon (blocksFirstAt m c t n hn) (ix2 ρ i) = if ρ.val < 128 * n then chunk (fW m c) (fS m c) (fX m c) (pt t) ρ i else 0
  | 0, _ => by
    rw [if_neg (by omega)]
    refine (canon_hit _ _ _ _ _ _ (ix2 ρ i) fun a => ?_).trans (zeroA_apply _)
    match a with
    | ⟨0, _⟩ => show ρ.val = 0 + ρ.val; omega
    | ⟨1, _⟩ => show i.val = 0 + i.val; omega
  | n + 1, hn => by
    by_cases hb : ρ.val < 128 * n
    · rw [if_pos (by omega)]
      refine (canon_miss _ _ _ _ _ _ (0 : Fin 2) (.inl hb)).trans ?_
      rw [canon_blocksFirst h t ρ i n (by omega), if_pos hb]
    · by_cases hb' : ρ.val < 128 * (n + 1)
      · rw [if_pos hb']
        have hr : ρ = ⟨128 * n + (ρ.val - 128 * n), by omega⟩ := Fin.ext (by show ρ.val = 128 * n + (ρ.val - 128 * n); omega)
        refine (canon_hit _ _ _ _ _ _ (ix2 (⟨ρ.val - 128 * n, by omega⟩ : Fin 128) i) fun a => ?_).trans ?_
        · match a with
          | ⟨0, _⟩ => show ρ.val = 128 * n + (ρ.val - 128 * n); omega
          | ⟨1, _⟩ => show i.val = 0 + i.val; omega
        · rw [newA_apply m c h, View.readCov_eq_canon']
          have hz : View.canon (blocksFirstAt m c t n (by omega)) (ix2 ρ i) = 0 := by rw [canon_blocksFirst h t ρ i n (by omega), if_neg hb]
          have hi : (Rect.unit (s := S2880x256) ![128 * n, 0] S128x256.size (inbA n hn)).toLoadRect.idx (ix2 (⟨ρ.val - 128 * n, by omega⟩ : Fin 128) i) = ix2 ρ i := by
            funext a; apply Fin.ext
            match a with
            | ⟨0, _⟩ => show 128 * n + 1 * (ρ.val - 128 * n) = ρ.val; omega
            | ⟨1, _⟩ => show 0 + 1 * i.val = i.val; omega
          simp only [← hr]
          refine (congrArg (· + _) ((congrArg (View.canon (blocksFirstAt m c t n (by omega))) hi).trans hz)).trans (zero_add _)
      · rw [if_neg hb']
        refine (canon_miss _ _ _ _ _ _ (0 : Fin 2) (.inr ?_)).trans ?_
        · show 128 * n + 128 ≤ ρ.val; omega
        · rw [canon_blocksFirst h t ρ i n (by omega), if_neg hb]

/-- The last 64 rows are still zero after the row blocks. -/
theorem read_first64 (h : Ranged m c) (t : Fin cfg0.N) (r : Fin 64) (i : Fin 256) (n : ℕ) (hn : n ≤ 22) :
    scM0_0.view.readCov (blocksFirstAt m c t n hn) (Rect.unit (s := S2880x256) ![2816, 0] S64x256.size inb_S2880x256_S64x256_2816_0).toLoadRect (ix2 r i) = 0 := by
  have hi : (Rect.unit (s := S2880x256) ![2816, 0] S64x256.size inb_S2880x256_S64x256_2816_0).toLoadRect.idx (ix2 r i) = ix2 (⟨2816 + r.val, by omega⟩ : Fin 2880) i := by
    funext a; apply Fin.ext
    match a with
    | ⟨0, _⟩ => show 2816 + 1 * r.val = 2816 + r.val; omega
    | ⟨1, _⟩ => show 0 + 1 * i.val = i.val; omega
  rw [View.readCov_eq_canon']
  refine (congrArg (View.canon (blocksFirstAt m c t n hn)) hi).trans ?_
  rw [canon_blocksFirst m c h t _ i n hn, if_neg (by show ¬2816 + r.val < 128 * n; omega)]

theorem canon_storesFirst (h : Ranged m c) (t : Fin cfg0.N) (ρ : Fin 2880) (i : Fin 256) :
    View.canon (storesFirstAt m c t) (ix2 ρ i) = chunk (fW m c) (fS m c) (fX m c) (pt t) ρ i := by
  by_cases hb : ρ.val < 2816
  · refine (canon_miss _ _ _ _ _ _ (0 : Fin 2) (.inl hb)).trans ?_
    rw [canon_blocksFirst m c h t ρ i 22 le_rfl, if_pos hb]
  · have hr : ρ = ⟨2816 + (ρ.val - 2816), by omega⟩ := Fin.ext (by show ρ.val = 2816 + (ρ.val - 2816); omega)
    refine (canon_hit _ _ _ _ _ _ (ix2 (⟨ρ.val - 2816, by omega⟩ : Fin 64) i) fun a => ?_).trans ?_
    · match a with
      | ⟨0, _⟩ => show ρ.val = 2816 + (ρ.val - 2816); omega
      | ⟨1, _⟩ => show i.val = 0 + i.val; omega
    · rw [newA64_apply m c h, read_first64 m c h t, zero_add]
      simp only [← hr]

/-- The first point leaves its chunk's part. -/
theorem accStep_zero (h : Ranged m c) (t : Fin cfg0.N) (ht : t.val = 0) (acc : Vec Ideal S2880x256 .f32) (ρ : Fin 2880) (i : Fin 256) :
    accStep m c t acc (ix2 ρ i) = chunk (fW m c) (fS m c) (fX m c) (pt t) ρ i := by
  rw [accStep_first m c t acc (by omega) (by omega), firstAcc, View.read_writes_junk_eq_canon]
  exact canon_storesFirst m c h t ρ i

/-- A later point adds its chunk's part. -/
theorem accStep_pos (h : Ranged m c) (t : Fin cfg0.N) (ht : t.val ≠ 0) (acc : Vec Ideal S2880x256 .f32) (ρ : Fin 2880) (i : Fin 256) :
    accStep m c t acc (ix2 ρ i) = acc (ix2 ρ i) + chunk (fW m c) (fS m c) (fX m c) (pt t) ρ i := by
  have hN : t.val < 16 := lt_of_lt_of_eq t.isLt N16
  by_cases h1 : t.val % 16 = 15
  · rw [accStep_last m c t acc (by omega) h1, lastAcc, View.read_writes_junk_eq_canon]
    exact canon_stores m c h t acc ρ i
  · rw [accStep_mid m c t acc (by omega) h1, midAcc, View.read_writes_junk_eq_canon]
    exact canon_stores m c h t acc ρ i

theorem accBefore_eq (n : ℕ) (hn : n + 1 ≤ cfg0.N) : accBefore m c (n + 1) hn = accStep m c ⟨n, hn⟩ (accBefore m c n (Nat.le_of_succ_le hn)) := rfl

/-- Before point `n + 1` the accumulator holds the parts of the chunks `0` to `n`. -/
theorem accBefore_succ (h : Ranged m c) (ρ : Fin 2880) (i : Fin 256) : ∀ (n : ℕ) (hn : n + 1 ≤ cfg0.N),
    accBefore m c (n + 1) hn (ix2 ρ i) = ∑ t : Fin (n + 1), chunk (fW m c) (fS m c) (fX m c) ⟨t.val, by have := lt_of_lt_of_eq (lt_of_lt_of_le t.isLt hn) N16; omega⟩ ρ i
  | 0, hn => by
    rw [Fin.sum_univ_one, accBefore_eq, accStep_zero m c h ⟨0, hn⟩ rfl]
    rfl
  | n + 1, hn => by
    rw [Fin.sum_univ_castSucc, accBefore_eq, accStep_pos m c h ⟨n + 1, hn⟩ (Nat.succ_ne_zero n), accBefore_succ h ρ i n (Nat.le_of_succ_le hn)]
    rfl

/-- At the end the accumulator holds the product. -/
theorem acc_final (h : Ranged m c) (ρ : Fin 2880) (i : Fin 256) :
    accStep m c tLast (accAt m c tLast) (ix2 ρ i) = prod (fW m c) (fS m c) (fX m c) ρ i := by
  rw [← prod_eq]
  exact accBefore_succ m c h ρ i 15 (le_of_eq N16.symm)

/-- So do the stores of the last point. -/
theorem canon_last (h : Ranged m c) (ρ : Fin 2880) (i : Fin 256) :
    View.canon (storesAt m c tLast (accAt m c tLast)) (ix2 ρ i) = prod (fW m c) (fS m c) (fX m c) ρ i := by
  rw [← acc_final m c h, accStep_last m c tLast _ (by decide) rfl, lastAcc, View.read_writes_junk_eq_canon]

end Cert.KernelIdeal.Body

end

end
-- ==== Proof.Value.Norms.lean ====
/-
The results that the kernel reads off its accumulator, at an index.
-/
module

public import proofs.«01_k».proof.Proof.Value.Acc
public import proofs.«01_k».proof.Proof.Value.Normed

@[expose] public section

set_option maxRecDepth 16384

noncomputable section

namespace Cert.KernelIdeal.Body

open Cert.KernelIdeal.Gen
open Idealize.ShloMosaic Idealize.ShloMosaic.TcCoe Idealize.ShloMosaic.Tactic
open Cert.Exponent
open scoped BigOperators

open Cert.Quant

theorem invRms_apply (v : Vec Ideal S2048x256 .f32) (i : Fin 256) :
    invRms v (ix2 0 i) = Ideal.rsqrt ((∑ ρ : Fin 2048, v (ix2 ρ i) * v (ix2 ρ i)) * Ideal.ofBits .f32 0x3A000000#32 + eps) := by
  unfold eps
  pointwise [invRms]

theorem inv768_eq : (Named.named κ "inv_768" 0x3AAAAAAB#32 : Ideal .f32) = ((1 / 768 : ℝ) : EReal) := rfl

theorem pay26_apply (v : Vec Ideal S768x256 .f32) (i : Fin 256) :
    k0_pay26 v (ix2 0 i) = Ideal.rsqrt ((∑ ρ : Fin 768, v (ix2 ρ i) * v (ix2 ρ i)) * ((1 / 768 : ℝ) : EReal) + eps) := by
  unfold eps
  pointwise [k0_pay26]
  rw [inv768_eq]

theorem pay27_apply (r : Vec Ideal S1x256 .f32) (p : Vec Ideal S128x256 .f32) (g : Vec Ideal S1x128 .f32) (i : Fin 256) (j : Fin 128) :
    k0_pay27 r p g (ix2 i j) = p (ix2 j i) * r (ix2 0 i) * g (ix2 0 j) := by
  pointwise [k0_pay27]
  try rfl
theorem tr64_apply (p : Vec Ideal S64x256 .f32) (i : Fin 256) (j : Fin 64) :
    truncf (F := Ideal) .bf16 (transpose S256x64 [1, 0] p transposes_S64x256_p1_0_S256x64) bitsLt_bf16_f32 (ix2 i j) = p (ix2 j i) := by
  pointwise
  try rfl

section stores
variable (arg11 : Memref sig .tc .vmem S2880x256 .f32) (L : List (View.Piece (Elt Ideal) S2880x256 .f32)) (P : Fin 2880 → Fin 256 → EReal)
  (hL : ∀ ρ i, View.canon L (ix2 ρ i) = P ρ i)
include hL

/-- Rows `a` to `a + n - 1` of the accumulator, read back. -/
theorem rowsBack (a n : ℕ) (inb : ∀ b, (![a, 0] : Fin 2 → ℕ) b + (![n, 256] : Fin 2 → ℕ) b ≤ S2880x256.size b)
    (r : Fin n) (i : Fin 256) (h : a + r.val < 2880) :
    arg11.view.readCov L (Rect.unit (s := S2880x256) ![a, 0] ![n, 256] inb).toLoadRect (ix2 r i) = P ⟨a + r.val, h⟩ i := by
  rw [View.readCov_eq_canon', ← hL]
  refine congrArg (View.canon L) (funext fun b => Fin.ext ?_)
  match b with
  | ⟨0, _⟩ => show a + 1 * r.val = a + r.val; omega
  | ⟨1, _⟩ => show 0 + 1 * i.val = i.val; omega

theorem canon_q (arg4 : Memref sig .tc .vmem S1x2048 .f32) (harg4 : arg4.IsWhole) (x3 : Vec Ideal S1x2048 .f32) (i : Fin 256) (j : Fin 2048) :
    ∀ (n : ℕ) (hn : n ≤ 16), j.val < 128 * n → View.canon (qStores arg4 harg4 arg11 x3 L n hn) (ix2 i j) = qOut P (fun j => x3 (ix2 0 j)) i j
  | 0, _, h => absurd h (by omega)
  | n + 1, hn, h => by
    unfold qStores
    by_cases hb : j.val < 128 * n
    · refine (canon_miss _ _ _ _ _ _ (1 : Fin 2) (.inl hb)).trans ?_
      exact canon_q arg4 harg4 x3 i j n (by omega) hb
    · refine (canon_hit _ _ _ _ _ _ (ix2 i (⟨j.val - 128 * n, by omega⟩ : Fin 128)) fun a => ?_).trans ?_
      · match a with
        | ⟨0, _⟩ => show i.val = 0 + i.val; omega
        | ⟨1, _⟩ => show j.val = 128 * n + (j.val - 128 * n); omega
      · rw [pay27_apply, invRms_apply, Memref.IsWhole.readAt_unread]
        unfold qOut
        refine congrArg₂ (· * ·) (congrArg₂ (· * ·) ?_ ?_) ?_
        · refine (rowsBack arg11 L P hL _ 128 _ _ _ (by show 128 * n + (j.val - 128 * n) < 2880; omega)).trans ?_
          have e : (⟨128 * n + (j.val - 128 * n), by omega⟩ : Fin 2880) = ⟨j.val, by omega⟩ := Fin.ext (by show 128 * n + (j.val - 128 * n) = j.val; omega)
          exact congrArg (P · i) e
        · refine congrArg (fun s => Ideal.rsqrt (s * _ + eps)) (Finset.sum_congr rfl fun ρ _ => ?_)
          have e : (⟨0 + ρ.val, by omega⟩ : Fin 2880) = ⟨ρ.val, by omega⟩ := Fin.ext (by show 0 + ρ.val = ρ.val; omega)
          have e' := (rowsBack arg11 L P hL 0 2048 inb_S2880x256_S2048x256_0_0 ρ i (by omega)).trans (congrArg (P · i) e)
          exact congrArg₂ (· * ·) e' e'
        · refine congrArg x3 (funext fun a => Fin.ext ?_)
          match a with
          | ⟨0, _⟩ => rfl
          | ⟨1, _⟩ => show 128 * n + 1 * (j.val - 128 * n) = j.val; omega

theorem canon_kv (arg5 : Memref sig .tc .vmem S1x768 .f32) (harg5 : arg5.IsWhole) (x4 : Vec Ideal S1x768 .f32) (i : Fin 256) (j : Fin 768) :
    ∀ (n : ℕ) (hn : n ≤ 6), j.val < 128 * n → View.canon (kvStores arg5 harg5 arg11 x4 L n hn) (ix2 i j) = kvOut P (fun j => x4 (ix2 0 j)) i j
  | 0, _, h => absurd h (by omega)
  | n + 1, hn, h => by
    unfold kvStores
    by_cases hb : j.val < 128 * n
    · refine (canon_miss _ _ _ _ _ _ (1 : Fin 2) (.inl hb)).trans ?_
      exact canon_kv arg5 harg5 x4 i j n (by omega) hb
    · refine (canon_hit _ _ _ _ _ _ (ix2 i (⟨j.val - 128 * n, by omega⟩ : Fin 128)) fun a => ?_).trans ?_
      · match a with
        | ⟨0, _⟩ => show i.val = 0 + i.val; omega
        | ⟨1, _⟩ => show j.val = 128 * n + (j.val - 128 * n); omega
      · rw [pay27_apply, pay26_apply, Memref.IsWhole.readAt_unread]
        unfold kvOut
        refine congrArg₂ (· * ·) (congrArg₂ (· * ·) ?_ ?_) ?_
        · refine (rowsBack arg11 L P hL _ 128 _ _ _ (by show 2048 + 128 * n + (j.val - 128 * n) < 2880; omega)).trans ?_
          have e : (⟨2048 + 128 * n + (j.val - 128 * n), by omega⟩ : Fin 2880) = ⟨2048 + j.val, by omega⟩ :=
            Fin.ext (by show 2048 + 128 * n + (j.val - 128 * n) = 2048 + j.val; omega)
          exact congrArg (P · i) e
        · refine congrArg (fun s => Ideal.rsqrt (s * _ + eps)) (Finset.sum_congr rfl fun ρ _ => ?_)
          have e' := rowsBack arg11 L P hL 2048 768 inb_S2880x256_S768x256_2048_0 ρ i (by omega)
          exact congrArg₂ (· * ·) e' e'
        · refine congrArg x4 (funext fun a => Fin.ext ?_)
          match a with
          | ⟨0, _⟩ => rfl
          | ⟨1, _⟩ => show 128 * n + 1 * (j.val - 128 * n) = j.val; omega

theorem canon_pe (i : Fin 256) (j : Fin 64) : View.canon (peStores arg11 L) (ix2 i j) = peOut P i j := by
  unfold peStores
  refine (canon_hit _ _ _ _ _ _ (ix2 i j) fun a => ?_).trans ?_
  · match a with
    | ⟨0, _⟩ => show i.val = 0 + i.val; omega
    | ⟨1, _⟩ => show j.val = 0 + j.val; omega
  · rw [tr64_apply]
    exact rowsBack arg11 L P hL 2816 64 inb_S2880x256_S64x256_2816_0 j i (by omega)
end stores

variable (m : (ℓ : Loc nD τ sig) → Buf (Elt Ideal) ℓ) (c : Dev nD)

/-- The product, of the arrays that the grid finds. -/
abbrev fP : Fin 2880 → Fin 256 → EReal := prod (fW m c) (fS m c) (fX m c)

theorem qAt_apply (h : Ranged m c) (i : Fin 256) (j : Fin 2048) :
    qAt m c tLast (ix2 i j) = qOut (fP m c) (fun j => arrGq m c (ix2 0 j)) i j := by
  rw [qAt_last m c tLast (by show ¬15 % 16 = 0; omega) rfl, View.read_writes_junk_eq_canon, lastQ]
  refine (canon_q scM0_0 _ (fP m c) (canon_last m c h) _ _ _ i j 16 le_rfl (by omega)).trans ?_
  rw [iblk3_eq]
theorem kvAt_apply (h : Ranged m c) (i : Fin 256) (j : Fin 768) :
    kvAt m c tLast (ix2 i j) = kvOut (fP m c) (fun j => arrGkv m c (ix2 0 j)) i j := by
  rw [kvAt_last m c tLast (by show ¬15 % 16 = 0; omega) rfl, View.read_writes_junk_eq_canon, lastKv]
  refine (canon_kv scM0_0 _ (fP m c) (canon_last m c h) _ _ _ i j 6 le_rfl (by omega)).trans ?_
  rw [iblk4_eq]
theorem peAt_apply (h : Ranged m c) (i : Fin 256) (j : Fin 64) : peAt m c tLast (ix2 i j) = peOut (fP m c) i j := by
  rw [peAt_last m c tLast (by show ¬15 % 16 = 0; omega) rfl, View.read_writes_junk_eq_canon, lastPe]
  exact canon_pe scM0_0 _ (fP m c) (canon_last m c h) i j

end Cert.KernelIdeal.Body

end

end
-- ==== Proof.Value.Codes.lean ====
/-
The codes that the kernel leaves, at an index.
-/
module

public import proofs.«01_k».proof.Proof.Value.Acc

@[expose] public section

set_option maxRecDepth 16384

noncomputable section

namespace Cert.KernelIdeal.Body

open Cert.KernelIdeal.Gen
open Idealize.ShloMosaic Idealize.ShloMosaic.TcCoe Idealize.ShloMosaic.Tactic
open Cert.Exponent
open scoped BigOperators

open Cert.Quant
variable (m : (ℓ : Loc nD τ sig) → Buf (Elt Ideal) ℓ) (c : Dev nD)

theorem codesAt_eq (t : Fin cfg0.N) : codesAt m c t = View.canon (codeStores (ms0_0 t) (hs0_0 t) (iblk m c 0 t)) := by
  have hN : t.val < 16 := lt_of_lt_of_eq t.isLt N16
  by_cases h0 : t.val % 16 = 0
  · rw [codesAt_first m c t h0 (by omega), firstCodes, View.read_writes_junk_eq_canon]
  · by_cases h1 : t.val % 16 = 15
    · rw [codesAt_last m c t h0 h1, lastCodes, View.read_writes_junk_eq_canon]
    · rw [codesAt_mid m c t h0 h1, midCodes, View.read_writes_junk_eq_canon]

/-- The store of group `g`. -/
abbrev codeStore (t : Fin cfg0.N) (g : Fin 8) : View.Piece (Elt Ideal) S256x1024 .fp8e4m3 :=
  ⟨Rect.unit (s := S256x1024) ![0, 128 * g.val] S256x128.size (inbX g), k0_pay36 (rdX (ms0_0 t) (hs0_0 t) (iblk m c 0 t) g)⟩

theorem mem_codeStores (t : Fin cfg0.N) (p) : p ∈ codeStores (ms0_0 t) (hs0_0 t) (iblk m c 0 t) ↔ ∃ g, p = codeStore m c t g := by
  constructor
  · intro hp
    simp only [codeStores, List.mem_cons, List.not_mem_nil, or_false] at hp
    rcases hp with h | h | h | h | h | h | h | h
    exacts [⟨7, h⟩, ⟨6, h⟩, ⟨5, h⟩, ⟨4, h⟩, ⟨3, h⟩, ⟨2, h⟩, ⟨1, h⟩, ⟨0, h⟩]
  · rintro ⟨g, rfl⟩
    simp only [codeStores, List.mem_cons, List.not_mem_nil, or_false]
    fin_cases g
    exacts [.inr (.inr (.inr (.inr (.inr (.inr (.inr rfl)))))), .inr (.inr (.inr (.inr (.inr (.inr (.inl rfl)))))), .inr (.inr (.inr (.inr (.inr (.inl rfl))))),
      .inr (.inr (.inr (.inr (.inl rfl)))), .inr (.inr (.inr (.inl rfl))), .inr (.inr (.inl rfl)), .inr (.inl rfl), .inl rfl]

/-- The codes of a chunk. -/
theorem codesAt_apply (h : Ranged m c) (t : Fin cfg0.N) (i : Fin 256) (k : Fin 1024) :
    codesAt m c t (ix2 i k) = gcode (grp (fX m c) i ⟨8 * (pt t).val + k.val / 128, by omega⟩) ⟨k.val % 128, by omega⟩ := by
  rw [codesAt_eq]
  have key := View.canon_apply_of_pieces (Val := Elt Ideal)
    (fun y : S256x1024.Idx => k0_pay36 (rdX (ms0_0 t) (hs0_0 t) (iblk m c 0 t) ⟨(y 1).val / 128, by have : (y 1).val < 1024 := (y 1).isLt; omega⟩)
      (ix2 ⟨(y 0).val, (y 0).isLt⟩ (⟨(y 1).val % 128, by omega⟩ : Fin 128)))
    (codeStores (ms0_0 t) (hs0_0 t) (iblk m c 0 t)) (fun p hp x => ?_) (ix2 i k) ?_
  · refine key.trans ?_
    refine (pay36_apply _ _ _ ?_).trans ?_
    · rw [rdX_grp]; exact h _ _
    · rw [rdX_grp]; rfl
  · obtain ⟨g, rfl⟩ := (mem_codeStores m c t p).mp hp
    have hx1 : (x 1).val < 128 := (x 1).isLt
    have h0 : (((codeStore m c t g).1.emb x) 0).val = 0 + 1 * (x 0).val := rfl
    have h1 : (((codeStore m c t g).1.emb x) 1).val = 128 * g.val + 1 * (x 1).val := rfl
    have e1 : (⟨(((codeStore m c t g).1.emb x) 1).val / 128, by rw [h1]; omega⟩ : Fin 8) = g := Fin.ext (by show _ / 128 = g.val; rw [h1]; omega)
    have e2 : (ix2 (⟨(((codeStore m c t g).1.emb x) 0).val, (((codeStore m c t g).1.emb x) 0).isLt⟩ : Fin 256) (⟨(((codeStore m c t g).1.emb x) 1).val % 128, by omega⟩ : Fin 128) : S256x128.Idx) = x := by
      funext a; apply Fin.ext
      match a with
      | ⟨0, _⟩ => show (((codeStore m c t g).1.emb x) 0).val = (x 0).val; rw [h0]; omega
      | ⟨1, _⟩ => show (((codeStore m c t g).1.emb x) 1).val % 128 = (x 1).val; rw [h1]; omega
    show k0_pay36 (rdX (ms0_0 t) (hs0_0 t) (iblk m c 0 t) g) x = _
    simp only [e1]
    exact congrArg _ e2.symm
  · refine ⟨_, (mem_codeStores m c t _).mpr ⟨⟨k.val / 128, by omega⟩, rfl⟩, ?_⟩
    refine (codeStore m c t ⟨k.val / 128, by omega⟩).1.mem_set.mpr fun a => ?_
    match a with
    | ⟨0, _⟩ => exact ⟨i.val, i.isLt, by show i.val = 0 + 1 * i.val; omega⟩
    | ⟨1, _⟩ => exact ⟨k.val % 128, by show k.val % 128 < 128; omega, by show k.val = 128 * (k.val / 128) + 1 * (k.val % 128); omega⟩

/-- The codes at the end. -/
theorem codesFinal_apply (h : Ranged m c) (i : Fin 256) (K : Fin 16384) :
    codesFinal m c (ix2 i K) = gcode (grp (fX m c) i ⟨K.val / 128, by omega⟩) ⟨K.val % 128, by omega⟩ := by
  have e : codeLoc (ix2 i K) = ix2 i (⟨K.val % 1024, by omega⟩ : Fin 1024) := by
    funext a
    match a with
    | ⟨0, _⟩ => rfl
    | ⟨1, _⟩ => rfl
  show codesAt m c (codePt (ix2 i K)) (codeLoc (ix2 i K)) = _
  rw [e, codesAt_apply m c h]
  have e1 : (⟨8 * (pt (codePt (ix2 i K))).val + K.val % 1024 / 128, by omega⟩ : Fin 128) = ⟨K.val / 128, by omega⟩ :=
    Fin.ext (by show 8 * (K.val / 1024) + K.val % 1024 / 128 = K.val / 128; omega)
  have e2 : (⟨K.val % 1024 % 128, by omega⟩ : Fin 128) = ⟨K.val % 128, by omega⟩ := Fin.ext (by show K.val % 1024 % 128 = K.val % 128; omega)
  simp only [e1, e2]

end Cert.KernelIdeal.Body

end

end
-- ==== Proof.Value.Scales.lean ====
/-
The scale array that the kernel leaves, at an index.
-/
module

public import proofs.«01_k».proof.Proof.Value.Acc

@[expose] public section

set_option maxRecDepth 16384

noncomputable section

namespace Cert.KernelIdeal.Body

open Cert.KernelIdeal.Gen
open Idealize.ShloMosaic Idealize.ShloMosaic.TcCoe Idealize.ShloMosaic.Tactic
open Cert.Exponent
open scoped BigOperators

open Cert.Quant

/-- The comparison of a lane with the lane that a group's scale goes to. -/
theorem lane_word : ∀ (t : Fin 16) (g : Fin 8) (l : Fin 128),
    (IntOp.cmpi .eq (BitVec.ofNat 32 l.val) (Scalar.addi (Scalar.muli (BitVec.ofNat 32 t.val) 8#32) (BitVec.ofNat 32 g.val)) = 1#1) ↔ l.val = 8 * t.val + g.val := by
  decide +kernel

theorem putScale_apply (t : Fin cfg0.N) (g : Fin 8) (s : FVec Ideal S256x1 .f32) (prev : FVec Ideal S256x128 .f32) (r : Fin 256) (l : Fin 128) :
    putScale (grid0.coords t) (BitVec.ofNat 32 g.val) s prev (ix2 r l) = if l.val = 8 * t.val + g.val then s (ix2 r 0) else prev (ix2 r l) := by
  have hw := lane_word ⟨t.val, lt_of_lt_of_eq t.isLt N16⟩ g l
  have hc := coord_eq t
  pointwise [putScale]
  rw [hc]
  by_cases h : l.val = 8 * t.val + g.val
  · rw [if_pos h, show IntOp.cmpi .eq (BitVec.ofNat 32 l.val) (Scalar.addi (Scalar.muli (BitVec.ofNat 32 t.val) 8#32) (BitVec.ofNat 32 g.val)) = 1#1 from hw.mpr h]
    rfl
  · rw [if_neg h]
    unfold Scalar.select
    exact if_neg fun h' => h (hw.mp h')

theorem putScales_apply (t : Fin cfg0.N) (xg : Fin 8 → Vec Ideal S256x128 .bf16) (X : Vec Ideal S256x128 .f32) (r : Fin 256) (l : Fin 128) :
    putScales (grid0.coords t) xg X (ix2 r l) = if l.val / 8 = t.val then k0_pay35 (xg ⟨l.val % 8, by omega⟩) (ix2 r 0) else X (ix2 r l) := by
  unfold putScales
  have p0 : ∀ s prev, putScale (F := Ideal) (grid0.coords t) 0#32 s prev (ix2 r l) = if l.val = 8 * t.val + 0 then s (ix2 r 0) else prev (ix2 r l) := fun s prev => putScale_apply t 0 s prev r l
  have p1 : ∀ s prev, putScale (F := Ideal) (grid0.coords t) 1#32 s prev (ix2 r l) = if l.val = 8 * t.val + 1 then s (ix2 r 0) else prev (ix2 r l) := fun s prev => putScale_apply t 1 s prev r l
  have p2 : ∀ s prev, putScale (F := Ideal) (grid0.coords t) 2#32 s prev (ix2 r l) = if l.val = 8 * t.val + 2 then s (ix2 r 0) else prev (ix2 r l) := fun s prev => putScale_apply t 2 s prev r l
  have p3 : ∀ s prev, putScale (F := Ideal) (grid0.coords t) 3#32 s prev (ix2 r l) = if l.val = 8 * t.val + 3 then s (ix2 r 0) else prev (ix2 r l) := fun s prev => putScale_apply t 3 s prev r l
  have p4 : ∀ s prev, putScale (F := Ideal) (grid0.coords t) 4#32 s prev (ix2 r l) = if l.val = 8 * t.val + 4 then s (ix2 r 0) else prev (ix2 r l) := fun s prev => putScale_apply t 4 s prev r l
  have p5 : ∀ s prev, putScale (F := Ideal) (grid0.coords t) 5#32 s prev (ix2 r l) = if l.val = 8 * t.val + 5 then s (ix2 r 0) else prev (ix2 r l) := fun s prev => putScale_apply t 5 s prev r l
  have p6 : ∀ s prev, putScale (F := Ideal) (grid0.coords t) 6#32 s prev (ix2 r l) = if l.val = 8 * t.val + 6 then s (ix2 r 0) else prev (ix2 r l) := fun s prev => putScale_apply t 6 s prev r l
  have p7 : ∀ s prev, putScale (F := Ideal) (grid0.coords t) 7#32 s prev (ix2 r l) = if l.val = 8 * t.val + 7 then s (ix2 r 0) else prev (ix2 r l) := fun s prev => putScale_apply t 7 s prev r l
  rw [p7, p6, p5, p4, p3, p2, p1, p0]
  by_cases h : l.val / 8 = t.val
  · rw [if_pos h]
    generalize hG : (⟨l.val % 8, _⟩ : Fin 8) = G
    have hl : l.val = 8 * t.val + G.val := by
      rw [← hG]; show l.val = 8 * t.val + l.val % 8; omega
    rw [hl]
    simp only [Nat.add_left_cancel_iff]
    clear hG hl
    fin_cases G <;> simp
  · rw [if_neg h, if_neg (by omega), if_neg (by omega), if_neg (by omega), if_neg (by omega), if_neg (by omega), if_neg (by omega), if_neg (by omega), if_neg (by omega)]
    exact congrFun (shapeCast_self _ _) _

variable (m : (ℓ : Loc nD τ sig) → Buf (Elt Ideal) ℓ) (c : Dev nD)

theorem scalesAt_eq (t : Fin cfg0.N) (X : Vec Ideal S256x128 .f32) : scalesAt m c t X = View.canon (scaleStores m t c X) := by
  have hN : t.val < 16 := lt_of_lt_of_eq t.isLt N16
  by_cases h0 : t.val % 16 = 0
  · rw [scalesAt_first m c t X h0 (by omega), firstScales, View.read_writes_junk_eq_canon]
  · by_cases h1 : t.val % 16 = 15
    · rw [scalesAt_last m c t X h0 h1, lastScales, View.read_writes_junk_eq_canon]
    · rw [scalesAt_mid m c t X h0 h1, midScales, View.read_writes_junk_eq_canon]

/-- A point replaces the eight lanes of its chunk, and leaves the others as it found them. -/
theorem scalesAt_apply (h : Ranged m c) (t : Fin cfg0.N) (X : Vec Ideal S256x128 .f32) (r : Fin 256) (l : Fin 128) :
    scalesAt m c t X (ix2 r l) = if l.val / 8 = t.val then gscale (grp (fX m c) r l) else X (ix2 r l) := by
  rw [scalesAt_eq]
  refine (canon_hit _ _ _ _ _ _ (ix2 r l) fun a => ?_).trans ?_
  · match a with
    | ⟨0, _⟩ => show r.val = 0 + r.val; omega
    | ⟨1, _⟩ => show l.val = 0 + l.val; omega
  rw [putScales_apply]
  by_cases hl : l.val / 8 = t.val
  · rw [if_pos hl, if_pos hl, pay35_apply _ _ (by rw [rdX_grp]; exact h _ _), rdX_grp]
    congr 2
    exact Fin.ext (by show 8 * t.val + l.val % 8 = l.val; omega)
  · rw [if_neg hl, if_neg hl, Memref.IsWhole.readAt_unread]
    congr 1; funext a; apply Fin.ext
    match a with
    | ⟨0, _⟩ => show 0 + 1 * r.val = r.val; omega
    | ⟨1, _⟩ => show 0 + 1 * l.val = l.val; omega

/-- Whatever the scale window held at first, at the end every lane holds its group's scale. -/
theorem scales_final (h : Ranged m c) (X : Vec Ideal S256x128 .f32) (hX : (rdat m c).Leaves 9 tLast X) (r : Fin 256) (l : Fin 128) :
    X (ix2 r l) = gscale (grp (fX m c) r l) := by
  refine leaves9 m c (fun n Y => ∀ (r : Fin 256) (l : Fin 128), l.val < 8 * (n + 1) → Y (ix2 r l) = gscale (grp (fX m c) r l)) ?_ ?_ 15 tLast rfl X hX r l (by omega)
  · intro t Y ht r l hl
    rw [scalesAt_apply m c h, if_pos (by omega)]
  · intro t Y n ht hY r l hl
    rw [scalesAt_apply m c h]
    by_cases hn : l.val / 8 = t.val
    · rw [if_pos hn]
    · rw [if_neg hn]; exact hY r l (by omega)

end Cert.KernelIdeal.Body

end

end
-- ==== Proof.Value.Match.lean ====
/-
The two programs end with equal results: both are the same functions of arrays that are the same reshapes of equal arguments.
-/
module

public import proofs.«01_k».proof.Proof.Value.Arrays
public import proofs.«01_k».proof.Proof.Value.Norms
public import proofs.«01_k».proof.Proof.Value.Codes
public import proofs.«01_k».proof.Proof.Value.Scales
public import proofs.«01_k».proof.Proof.Body.Final
public import proofs.«01_k».proof.Proof.Gen.ReferenceIdeal.Value

@[expose] public section

set_option maxRecDepth 16384

noncomputable section

namespace Cert.Match

open Idealize.ShloMosaic Idealize.ShloMosaic.TcCoe Idealize.ShloMosaic.Tactic
open Cert.Quant Cert.Exponent

/-- Two arrays of rank two that agree at every pair of coordinates are equal. -/
theorem ext2 {a b : ℕ} {α : Type} {f g : (⟨2, ![a, b]⟩ : Shape).Idx → α} (h : ∀ (i : Fin a) (j : Fin b), f (ix2 i j) = g (ix2 i j)) : f = g := by
  funext i
  rw [eq_ix2 i]
  exact h _ _

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories hold the same five arguments on a device. -/
def SameArgs (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

variable {m m'} {c : Dev Cert.KernelIdeal.nD}

section
variable (hs : SameArgs m m' c)
include hs

/-- The two grids find the same activations, -/
theorem sameX : Cert.ReferenceIdeal.Body.rX m' c = Cert.KernelIdeal.Body.arrX m c :=
  (Cert.ReferenceIdeal.Body.rX_eq m' c).trans ((congrArg (fun x => shapeCast Cert.KernelIdeal.S256x16384 x _) hs.1).trans (Cert.KernelIdeal.Body.arrX_eq m c).symm)
/-- the same weights, -/
theorem sameW : Cert.ReferenceIdeal.Body.rW m' c = Cert.KernelIdeal.Body.arrW m c :=
  (Cert.ReferenceIdeal.Body.rW_eq m' c).trans (hs.2.1.trans (Cert.KernelIdeal.Body.arrW_eq m c).symm)
/-- the same tile scales, -/
theorem sameS : Cert.ReferenceIdeal.Body.rS m' c = Cert.KernelIdeal.Body.arrS m c :=
  (Cert.ReferenceIdeal.Body.rS_eq m' c).trans (hs.2.2.1.trans (Cert.KernelIdeal.Body.arrS_eq m c).symm)
/-- the same first gain -/
theorem sameGq : Cert.ReferenceIdeal.Body.rGq m' c = Cert.KernelIdeal.Body.arrGq m c :=
  (Cert.ReferenceIdeal.Body.rGq_eq m' c).trans ((congrArg (fun x => shapeCast Cert.KernelIdeal.S1x2048 x _) hs.2.2.2.1).trans (Cert.KernelIdeal.Body.arrGq_eq m c).symm)
/-- and the same second gain. -/
theorem sameGkv : Cert.ReferenceIdeal.Body.rGkv m' c = Cert.KernelIdeal.Body.arrGkv m c :=
  (Cert.ReferenceIdeal.Body.rGkv_eq m' c).trans ((congrArg (fun x => shapeCast Cert.KernelIdeal.S1x768 x _) hs.2.2.2.2).trans (Cert.KernelIdeal.Body.arrGkv_eq m c).symm)

/-- The rows of the activations are the same. -/
theorem sameRows : Cert.ReferenceIdeal.Body.rows (Cert.ReferenceIdeal.Body.rX m' c) = Cert.KernelIdeal.Body.fX m c := by
  rw [sameX hs]
  rfl
/-- The products are the same. -/
theorem sameP : Cert.ReferenceIdeal.Body.rP m' c = Cert.KernelIdeal.Body.fP m c := by
  unfold Cert.ReferenceIdeal.Body.rP
  rw [sameRows hs, sameW hs, sameS hs]
  rfl

variable (h : Cert.KernelIdeal.Body.Ranged m c)
include h

/-- The first result: the first 2048 rows of the product, normalised. -/
theorem match5 : (Cert.ReferenceIdeal.Gen.dats m' 0 c).arrAt 5 Cert.ReferenceIdeal.cfg0.N = Cert.KernelIdeal.Body.qAt m c Cert.KernelIdeal.Body.tLast :=
  ext2 (a := 256) (b := 2048) fun i j => by
    refine (Cert.ReferenceIdeal.Body.res5 m' c i j).trans ?_
    rw [sameP hs, sameGq hs]
    exact (Cert.KernelIdeal.Body.qAt_apply m c h i j).symm
/-- The second result: the next 768 rows, normalised. -/
theorem match6 : (Cert.ReferenceIdeal.Gen.dats m' 0 c).arrAt 6 Cert.ReferenceIdeal.cfg0.N = Cert.KernelIdeal.Body.kvAt m c Cert.KernelIdeal.Body.tLast :=
  ext2 (a := 256) (b := 768) fun i j => by
    refine (Cert.ReferenceIdeal.Body.res6 m' c i j).trans ?_
    rw [sameP hs, sameGkv hs]
    exact (Cert.KernelIdeal.Body.kvAt_apply m c h i j).symm
/-- The third result: the last 64 rows. -/
theorem match7 : (Cert.ReferenceIdeal.Gen.dats m' 0 c).arrAt 7 Cert.ReferenceIdeal.cfg0.N = Cert.KernelIdeal.Body.peAt m c Cert.KernelIdeal.Body.tLast :=
  ext2 (a := 256) (b := 64) fun i j => by
    refine (Cert.ReferenceIdeal.Body.res7 m' c i j).trans ?_
    rw [sameP hs]
    exact (Cert.KernelIdeal.Body.peAt_apply m c h i j).symm
/-- The fourth result: the codes. -/
theorem match8 : (Cert.ReferenceIdeal.Gen.dats m' 0 c).arrAt 8 Cert.ReferenceIdeal.cfg0.N = Cert.KernelIdeal.Body.codesFinal m c :=
  ext2 (a := 256) (b := 16384) fun i j => by
    refine (Cert.ReferenceIdeal.Body.res8 m' c i j).trans ?_
    exact (congrArg (fun X => gcode (grp X i ⟨j.val / 128, by omega⟩) ⟨j.val % 128, by omega⟩) (sameRows hs)).trans
      (Cert.KernelIdeal.Body.codesFinal_apply m c h i j).symm
/-- The fifth result: whatever the kernel leaves as scales is what the reference computes. -/
theorem match9 (X : Vec Ideal Cert.KernelIdeal.S256x128 .f32) (hX : (Cert.KernelIdeal.Body.rdat m c).Leaves 9 Cert.KernelIdeal.Body.tLast X) :
    X = (Cert.ReferenceIdeal.Gen.dats m' 0 c).arrAt 9 Cert.ReferenceIdeal.cfg0.N :=
  ext2 (a := 256) (b := 128) fun i j => by
    refine (Cert.KernelIdeal.Body.scales_final m c h X hX i j).trans ?_
    exact (congrArg (fun X => gscale (grp X i j)) (sameRows hs).symm).trans (Cert.ReferenceIdeal.Body.res9 m' c i j).symm
end

/-- The value claim: from memories holding the same arguments, in range, the kernel and the reference both end, with equal
    results, the arguments unchanged. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hpre hs
  refine ⟨fun c => Cert.KernelIdeal.Body.qAt m c Cert.KernelIdeal.Body.tLast, fun c => Cert.KernelIdeal.Body.kvAt m c Cert.KernelIdeal.Body.tLast,
    fun c => Cert.KernelIdeal.Body.peAt m c Cert.KernelIdeal.Body.tLast, fun c => Cert.KernelIdeal.Body.codesFinal m c,
    fun c => (Cert.ReferenceIdeal.Gen.dats m' 0 c).arrAt 9 Cert.ReferenceIdeal.cfg0.N, ?_, ?_⟩
  · refine (θ_run _ _ _).mono (fun r h c => ?_) (Cert.KernelIdeal.Body.run m g)
    obtain ⟨h0, h1, h2, h3, h4, ha⟩ := h c
    exact ⟨h0, h1, h2, h3, match9 (hs c) (ranged m hpre c) _ h4, ha⟩
  · refine (θ_run _ _ _).mono (fun r h c => ?_) (Cert.ReferenceIdeal.Value.run_blocks m' g')
    obtain ⟨h0, h1, h2, h3, h4, ha⟩ := h c
    exact ⟨h0.trans (match5 (hs c) (ranged m hpre c)), h1.trans (match6 (hs c) (ranged m hpre c)), h2.trans (match7 (hs c) (ranged m hpre c)),
      h3.trans (match8 (hs c) (ranged m hpre c)), h4, ha⟩

end Cert.Match

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.ReferenceIdeal.Value
public import proofs.«01_k».proof.Proof.Gen.Pre_in_range
public import proofs.«01_k».proof.Proof.Printed.Frame
public import proofs.«01_k».proof.Proof.Value.Match
public import Idealize.ShloMosaic.Adequacy
public import Idealize.ShloMosaic.Init

@[expose] public section

noncomputable section

namespace Cert.Proof

open Idealize.ShloMosaic Idealize.SL.Sem Cert.Kernel

/-- Every claim of this certificate: both programs and the reference, as printed and idealized, end with their arguments
    unchanged and every semaphore counter at zero; each idealized program is the printed one with one constant named; and the
    idealized kernel and reference end with equal results wherever the precondition holds. -/
theorem claim : Cert.Claim := ⟨Cert.Kernel.Gen.facts, Cert.KernelIdeal.Gen.facts, Cert.ReferenceIdeal.Gen.facts, Cert.Reference.Gen.facts, Cert.Pre_in_range.Gen.facts,
  fun m g _ => Cert.Kernel.Body.frame m g,
  fun m g _ => Cert.KernelIdeal.Body.frame m g,
  fun m g _ => Cert.KernelIdeal.Body.frame m g,
  fun m g _ => Cert.ReferenceIdeal.Gen.frame m g,
  fun m g _ => Cert.ReferenceIdeal.Gen.frame m g,
  fun m g _ => Cert.Reference.Gen.frame m g,
  IdealRules.named_const.statement _ _ _ _ _ rfl,
  IdealRules.named_const.statement _ _ _ _ _ rfl,
  Cert.Match.algebraic⟩

end Cert.Proof

end
